-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x4096 : Shape := ⟨3, ![16, 128, 4096]⟩
abbrev S16x4x4096 : Shape := ⟨3, ![16, 4, 4096]⟩
abbrev S16x1x4096 : Shape := ⟨3, ![16, 1, 4096]⟩
abbrev S2048x4096 : Shape := ⟨2, ![2048, 4096]⟩
abbrev S64x4096 : Shape := ⟨2, ![64, 4096]⟩
abbrev S16x4096 : Shape := ⟨2, ![16, 4096]⟩
abbrev S2048x512 : Shape := ⟨2, ![2048, 512]⟩
abbrev S_ : Shape := ⟨0, ![]⟩
abbrev S16 : Shape := ⟨1, ![16]⟩
abbrev S1x16 : Shape := ⟨2, ![1, 16]⟩
abbrev S1 : Shape := ⟨1, ![1]⟩
abbrev S1x1 : Shape := ⟨2, ![1, 1]⟩
abbrev S1x4096 : Shape := ⟨2, ![1, 4096]⟩
abbrev S1x512 : Shape := ⟨2, ![1, 512]⟩

abbrev nBuf : Space → Nat
  | .hbm => 12
  | .vmem => 7
  | .smem => 0
  | _ => 0

abbrev bufTy : (tb : Table) → Fin (tcTables nBuf tb) → BufTy
  | .hbm, ⟨0, _⟩ => ⟨S16x128x4096, .f32⟩
  | .hbm, ⟨1, _⟩ => ⟨S16x4x4096, .f32⟩
  | .hbm, ⟨2, _⟩ => ⟨S16x1x4096, .i32⟩
  | .hbm, ⟨3, _⟩ => ⟨S2048x4096, .f32⟩
  | .hbm, ⟨4, _⟩ => ⟨S64x4096, .f32⟩
  | .hbm, ⟨5, _⟩ => ⟨S16x4096, .i32⟩
  | .hbm, ⟨6, _⟩ => ⟨S16x4096, .i32⟩
  | .hbm, ⟨7, _⟩ => ⟨S64x4096, .f32⟩
  | .hbm, ⟨8, _⟩ => ⟨S2048x4096, .f32⟩
  | .hbm, ⟨9, _⟩ => ⟨S16x128x4096, .f32⟩
  | .hbm, ⟨10, _⟩ => ⟨S16x4x4096, .f32⟩
  | .hbm, ⟨11, _⟩ => ⟨S16x1x4096, .i32⟩
  | .local _ .vmem, ⟨0, _⟩ => ⟨S16x4096, .i32⟩
  | .local _ .vmem, ⟨1, _⟩ => ⟨S64x4096, .f32⟩
  | .local _ .vmem, ⟨2, _⟩ => ⟨S16x4096, .i32⟩
  | .local _ .vmem, ⟨3, _⟩ => ⟨S64x4096, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S16x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none

def k0_off1 (v8 : BitVec 32) : Fin 2 → Nat :=
  let c0_i32_10 : BitVec 32 := 0#32
  let c1_i32 : BitVec 32 := 1#32
  let v9 : BitVec 32 := Scalar.maxsi v8 c1_i32
  let c1_i32_2 : BitVec 32 := 1#32
  let v10 : BitVec 32 := Scalar.subi v9 c1_i32_2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c512_i32 : BitVec 32 := 512#32
  let c0_i32_5 : BitVec 32 := 0#32
  let v17 : BitVec 1 := Scalar.cmpi .sgt c512_i32 c0_i32_5
  let v18 : BitVec 32 := Scalar.extui v17
  let c0_i32_6 : BitVec 32 := 0#32
  let v19 : BitVec 1 := Scalar.cmpi .slt c512_i32 c0_i32_6
  let v20 : BitVec 32 := Scalar.extui v19
  let v21 : BitVec 32 := Scalar.subi v18 v20
  let v22 : BitVec 1 := Scalar.cmpi .ne v16 v21
  let v23 : BitVec 32 := Scalar.remsi v10 c512_i32
  let c0_i32_7 : BitVec 32 := 0#32
  let v24 : BitVec 1 := Scalar.cmpi .ne v23 c0_i32_7
  let v25 : BitVec 1 := Scalar.andi v22 v24
  let v11 : BitVec 32 := Scalar.divsi v10 c512_i32
  let c1_i32_8 : BitVec 32 := 1#32
  let v26 : BitVec 32 := Scalar.subi v11 c1_i32_8
  let v27 : BitVec 32 := Scalar.select v25 v26 v11
  let c512_i32_9 : BitVec 32 := 512#32
  let v28 : BitVec 32 := Scalar.muli v27 c512_i32_9
  ![0, v28.toNat]

def k0_chk1 (v8 : BitVec 32) : Prop :=
  (∀ a, (k0_off1 v8) a + S2048x512.size a ≤ S2048x4096.size a)
theorem k0_off1_inb : ∀ (v8 : BitVec 32) (k0_hw1 : k0_chk1 v8), ∀ a, (k0_off1 v8) a + S2048x512.size a ≤ S2048x4096.size a := fun v8 k0_hw1 => k0_hw1
-- ==== ReferenceIdeal.lean ====
abbrev S16x128x4096 : Shape := ⟨3, ![16, 128, 4096]⟩
abbrev S16x4x4096 : Shape := ⟨3, ![16, 4, 4096]⟩
abbrev S16x1x4096 : Shape := ⟨3, ![16, 1, 4096]⟩
abbrev S_ : Shape := ⟨0, ![]⟩
abbrev S16x1 : Shape := ⟨2, ![16, 1]⟩
abbrev S4096 : Shape := ⟨1, ![4096]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16x128x4096, .f32⟩
  | .hbm, ⟨1, _⟩ => ⟨S16x4x4096, .f32⟩
  | .hbm, ⟨2, _⟩ => ⟨S16x1x4096, .i32⟩
  | .hbm, ⟨3, _⟩ => ⟨S_, .i32⟩
  | .hbm, ⟨4, _⟩ => ⟨S16x1x4096, .i32⟩
  | .hbm, ⟨5, _⟩ => ⟨S16x1x4096, .i1⟩
  | .hbm, ⟨6, _⟩ => ⟨S16x1x4096, .i1⟩
  | .hbm, ⟨7, _⟩ => ⟨S16x1x4096, .i32⟩
  | .hbm, ⟨8, _⟩ => ⟨S_, .i32⟩
  | .hbm, ⟨9, _⟩ => ⟨S16x1, .i32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i32⟩
  | .hbm, ⟨17, _⟩ => ⟨S_, .f32⟩
  | .hbm, ⟨18, _⟩ => ⟨S_, .i1⟩
  | .hbm, ⟨19, _⟩ => ⟨S4096, .i32⟩
  | .hbm, ⟨20, _⟩ => ⟨S1x1x4096, .i32⟩
  | .hbm, ⟨21, _⟩ => ⟨S1x1x4096, .i32⟩
  | .hbm, ⟨22, _⟩ => ⟨S1x1x4096, .i1⟩
  | .hbm, ⟨23, _⟩ => ⟨S_, .f32⟩
  | .hbm, ⟨24, _⟩ => ⟨S16x128x4096, .f32⟩
  | .hbm, ⟨25, _⟩ => ⟨S16x128x4096, .i1⟩
  | .hbm, ⟨26, _⟩ => ⟨S16x128x4096, .f32⟩
  | .hbm, ⟨27, _⟩ => ⟨S4096, .i32⟩
  | .hbm, ⟨28, _⟩ => ⟨S1x1x4096, .i32⟩
  | .hbm, ⟨29, _⟩ => ⟨S1x1x4096, .i32⟩
  | .hbm, ⟨30, _⟩ => ⟨S1x1x4096, .i1⟩
  | .hbm, ⟨31, _⟩ => ⟨S_, .f32⟩
  | .hbm, ⟨32, _⟩ => ⟨S16x4x4096, .f32⟩
  | .hbm, ⟨33, _⟩ => ⟨S16x4x4096, .i1⟩
  | .hbm, ⟨34, _⟩ => ⟨S16x4x4096, .f32⟩
  | .hbm, ⟨35, _⟩ => ⟨S4096, .i32⟩
  | .hbm, ⟨36, _⟩ => ⟨S1x1x4096, .i32⟩
  | .hbm, ⟨37, _⟩ => ⟨S1x1x4096, .i32⟩
  | .hbm, ⟨38, _⟩ => ⟨S1x1x4096, .i1⟩
  | .hbm, ⟨39, _⟩ => ⟨S_, .i32⟩
  | .hbm, ⟨40, _⟩ => ⟨S16x1x4096, .i32⟩
  | .hbm, ⟨41, _⟩ => ⟨S16x1x4096, .i1⟩
  | .hbm, ⟨42, _⟩ => ⟨S16x1x4096, .i32⟩
  | .hbm, ⟨43, _⟩ => ⟨S16x128x4096, .f32⟩
  | .hbm, ⟨44, _⟩ => ⟨S16x4x4096, .f32⟩
  | .hbm, ⟨45, _⟩ => ⟨S16x1x4096, .i32⟩
  | _, _ => ⟨S16x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_call2_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_call3_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Program.lean ====
module
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

/-! # The kernel's body as one straight program

The printed body comes in five windows and spells its eight column blocks out one by one. Here it is
restated as one program in which the step of a column block is a definition taking the block's number,
so that a fact about a step is stated once. -/

@[expose] public section
set_option maxRecDepth 16384
noncomputable section
namespace Cert.Kernel.Trim

open Cert.Kernel Cert.Kernel.Gen
open Idealize.ShloMosaic Idealize.ShloMosaic.TcCoe
open Idealize.SL.Sem

variable {F : FTy → Type} [FloatOps F]

/-- The body's programs. -/
abbrev BodyProg (F : FTy → Type) (α : Type) :=
  Prog (TpuEff nD τ sig (Elt F) Λ₀ .tc) α

/-- Columns `512 * d` to `512 * d + 511` of a 2048 × 4096 array. -/
abbrev colRect (d : ℕ) (h : ∀ a, (![0, 512 * d] : Fin 2 → Nat) a + S2048x512.size a ≤ S2048x4096.size a) :
    Rect S2048x4096 :=
  Rect.unit (s := S2048x4096) ![0, 512 * d] S2048x512.size h

/-- Column block `d` of the input. -/
abbrev xBlk (d : ℕ) (h : ∀ a, (![0, 512 * d] : Fin 2 → Nat) a + S2048x512.size a ≤ S2048x4096.size a) :
    Memref sig .tc .hbm S2048x512 .f32 :=
  (Memref.whole main_v0).slice (colRect d h) (fun _ => rfl)

/-- Column block `d` of the output. -/
abbrev oBlk (d : ℕ) (h : ∀ a, (![0, 512 * d] : Fin 2 → Nat) a + S2048x512.size a ≤ S2048x4096.size a) :
    Memref sig .tc .hbm S2048x512 .f32 :=
  (Memref.whole main_v3_2).slice (colRect d h) (fun _ => rfl)

/-- The boundary block of the input, at the place the count `v` computes. -/
abbrev xBnd (v : BitVec 32) (hw : k0_chk1 v) : Memref sig .tc .hbm S2048x512 .f32 :=
  (Memref.whole main_v0).slice (Rect.unit (s := S2048x4096) (k0_off1 v) S2048x512.size (k0_off1_inb v hw)) (fun _ => rfl)

/-- The boundary block of the output, at the place the count `v` computes. -/
abbrev oBnd (v : BitVec 32) (hw : k0_chk1 v) : Memref sig .tc .hbm S2048x512 .f32 :=
  (Memref.whole main_v3_2).slice (Rect.unit (s := S2048x4096) (k0_off1 v) S2048x512.size (k0_off1_inb v hw)) (fun _ => rfl)

/-- The word test "the boundary block lies after block `d`", as the body computes it. -/
abbrev after (w b : BitVec 32) : Prop := Scalar.cmpi .ne (Scalar.extui (Scalar.cmpi .sgt w b) : BitVec 32) 0#32 = 1#1

/-- The word test "the boundary block lies before block `d`", as the body computes it. -/
abbrev before (w b : BitVec 32) : Prop := Scalar.cmpi .ne (Scalar.extui (Scalar.cmpi .slt w b) : BitVec 32) 0#32 = 1#1

/-- Start what block `d` needs of the zero buffer, then go on. -/
def issueZ (w b : BitVec 32) (d : ℕ) (h : ∀ a, (![0, 512 * d] : Fin 2 → Nat) a + S2048x512.size a ≤ S2048x4096.size a)
    {α : Type} (rest : BodyProg F α) : BodyProg F α :=
  if before w b then
    .op (.enqueueDma (Memref.whole cc0_scratch6) (.here (oBlk d h)) (.dma cc0_scratch12.sem) (Memref.isWhole_whole _).wordExact
      (View.wordExact_bits rfl) ⟨Or.inl rfl, trivial⟩) fun _ => rest
  else rest

/-- Start what block `d` needs: a copy of the input's block if the boundary lies after it, zeros if
    before it, nothing if it is the boundary; then go on. -/
def issue (w b b' : BitVec 32) (d : ℕ) (h : ∀ a, (![0, 512 * d] : Fin 2 → Nat) a + S2048x512.size a ≤ S2048x4096.size a)
    {α : Type} (rest : BodyProg F α) : BodyProg F α :=
  if after w b then
    .op (.enqueueDma (xBlk d h) (.here (oBlk d h)) (.dma cc0_scratch11.sem) (View.wordExact_bits rfl)
      (View.wordExact_bits rfl) ⟨Or.inl rfl, trivial⟩) fun _ => issueZ w b' d h rest
  else issueZ w b' d h rest

/-- Wait for the zeros of block `d` if they were started, then go on. -/
def drainZ (w b : BitVec 32) (d : ℕ) (h : ∀ a, (![0, 512 * d] : Fin 2 → Nat) a + S2048x512.size a ≤ S2048x4096.size a)
    {α : Type} (rest : BodyProg F α) : BodyProg F α :=
  if before w b then
    .op (.waitDma2 cc0_scratch12.sem (Memref.whole cc0_scratch6) (oBlk d h) (Memref.isWhole_whole _).wordExact (View.wordExact_bits rfl))
      fun _ => rest
  else rest

/-- Wait for what block `d` started, then go on. -/
def drain (w b : BitVec 32) (d : ℕ) (h : ∀ a, (![0, 512 * d] : Fin 2 → Nat) a + S2048x512.size a ≤ S2048x4096.size a)
    {α : Type} (rest : BodyProg F α) : BodyProg F α :=
  if after w b then
    .op (.waitDma2 cc0_scratch11.sem (xBlk d h) (oBlk d h) (View.wordExact_bits rfl) (View.wordExact_bits rfl))
      fun _ => drainZ w b d h rest
  else drainZ w b d h rest

/-- The largest count of nonzero mask words over the rows, as the body computes it. -/
def count (v0 : Vec F S16x4096 .i32) : BitVec 32 := extractAt ![0, 0] (k0_pay1 (F := F) v0) inpos_S1x1_p0_0

/-- The boundary block's number as the body computes it from the number of columns kept. -/
def jword (v9 : BitVec 32) : BitVec 32 :=
  let v10 := Scalar.subi v9 1#32
  Scalar.select
    (Scalar.andi
      (Scalar.cmpi .ne (Scalar.subi (Scalar.extui (Scalar.cmpi .sgt v10 0#32) : BitVec 32) (Scalar.extui (Scalar.cmpi .slt v10 0#32)))
        (Scalar.subi (Scalar.extui (Scalar.cmpi .sgt 512#32 0#32) : BitVec 32) (Scalar.extui (Scalar.cmpi .slt 512#32 0#32))))
      (Scalar.cmpi .ne (Scalar.remsi v10 512#32) 0#32))
    (Scalar.subi (Scalar.divsi v10 512#32) 1#32) (Scalar.divsi v10 512#32)

/-- The whole zero-offset rectangle of the mask's shape. -/
abbrev rM : Rect S16x4096 := Rect.unit (s := S16x4096) ![0, 0] S16x4096.size inb_S16x4096_S16x4096_0_0
/-- The whole zero-offset rectangle of `v`'s shape. -/
abbrev rV : Rect S64x4096 := Rect.unit (s := S64x4096) ![0, 0] S64x4096.size inb_S64x4096_S64x4096_0_0
/-- The whole zero-offset rectangle of a column block's shape. -/
abbrev rB : Rect S2048x512 := Rect.unit (s := S2048x512) ![0, 0] S2048x512.size inb_S2048x512_S2048x512_0_0

/-- The last three waits: the boundary block's copy out, then `v` and the mask. -/
def finish (v8 : BitVec 32) (hw : k0_chk1 v8) : BodyProg F PUnit :=
  .op (.waitDma2 cc0_scratch10.sem (Memref.whole cc0_scratch5) (oBnd v8 hw) (Memref.isWhole_whole _).wordExact (View.wordExact_bits rfl)) fun _ =>
  .op (.waitDma2 cc0_scratch9.sem (Memref.whole cc0_scratch3) (Memref.whole main_v3_1) (Memref.isWhole_whole _).wordExact (Memref.isWhole_whole _).wordExact) fun _ =>
  .op (.waitDma2 cc0_scratch9.sem (Memref.whole cc0_scratch2) (Memref.whole main_v3_0) (Memref.isWhole_whole _).wordExact (Memref.isWhole_whole _).wordExact) fun _ =>
  .ret ⟨⟩

/-- The eight blocks' waits, then the last three. -/
def drainAll (v8 : BitVec 32) (hw : k0_chk1 v8) (w : BitVec 32) : BodyProg F PUnit :=
  drain w 0#32 0 inb_S2048x4096_S2048x512_0_0 <|
  drain w 1#32 1 inb_S2048x4096_S2048x512_0_512 <|
  drain w 2#32 2 inb_S2048x4096_S2048x512_0_1024 <|
  drain w 3#32 3 inb_S2048x4096_S2048x512_0_1536 <|
  drain w 4#32 4 inb_S2048x4096_S2048x512_0_2048 <|
  drain w 5#32 5 inb_S2048x4096_S2048x512_0_2560 <|
  drain w 6#32 6 inb_S2048x4096_S2048x512_0_3072 <|
  drain w 7#32 7 inb_S2048x4096_S2048x512_0_3584 <|
  finish v8 hw

/-- From the wait for `v` to the start of the boundary block's copy out. -/
def middle (v8 : BitVec 32) (hw : k0_chk1 v8) (v9 w : BitVec 32) : BodyProg F PUnit :=
  .op (.waitDma2 cc0_scratch8.sem (Memref.whole main_v1) (Memref.whole cc0_scratch1) (Memref.isWhole_whole _).wordExact (Memref.isWhole_whole _).wordExact) fun _ =>
  .op (.load (Memref.whole cc0_scratch1) rV.toLoadRect (View.loadsAt_vmem h_S64x4096)) fun v85 =>
  .op (.load (Memref.whole cc0_scratch3) rV.toLoadRect (View.loadsAt_vmem h_S64x4096)) fun _ =>
  .op (.store (Memref.whole cc0_scratch3) rV (k0_pay4 (F := F) v9 v85) Finset.univ (View.stores_vmem_bits_univ h_S64x4096 rfl) (.inl rfl)) fun _ =>
  .op (.load (Memref.whole cc0_scratch0) rM.toLoadRect (View.loadsAt_vmem h_S16x4096)) fun v93 =>
  .op (.load (Memref.whole cc0_scratch2) rM.toLoadRect (View.loadsAt_vmem h_S16x4096)) fun _ =>
  .op (.store (Memref.whole cc0_scratch2) rM (k0_pay7 (k0_pay5 (F := F) v93) (k0_pay6 v9)) Finset.univ (View.stores_vmem_bits_univ h_S16x4096 rfl) (.inl rfl)) fun _ =>
  .op (.enqueueDma (Memref.whole cc0_scratch3) (.here (Memref.whole main_v3_1)) (.dma cc0_scratch9.sem) (Memref.isWhole_whole _).wordExact (Memref.isWhole_whole _).wordExact ⟨Or.inl rfl, trivial⟩) fun _ =>
  .op (.enqueueDma (Memref.whole cc0_scratch2) (.here (Memref.whole main_v3_0)) (.dma cc0_scratch9.sem) (Memref.isWhole_whole _).wordExact (Memref.isWhole_whole _).wordExact ⟨Or.inl rfl, trivial⟩) fun _ =>
  .op (.waitDma2 cc0_scratch10.sem (xBnd v8 hw) (Memref.whole cc0_scratch4) (View.wordExact_bits rfl) (Memref.isWhole_whole _).wordExact) fun _ =>
  .op (.load (Memref.whole cc0_scratch4) rB.toLoadRect (View.loadsAt_vmem h_S2048x512)) fun v112 =>
  .op (.load (Memref.whole cc0_scratch5) rB.toLoadRect (View.loadsAt_vmem h_S2048x512)) fun _ =>
  .op (.store (Memref.whole cc0_scratch5) rB (k0_pay8 (F := F) v9 w v112) Finset.univ (View.stores_vmem_bits_univ h_S2048x512 rfl) (.inl rfl)) fun _ =>
  .op (.enqueueDma (Memref.whole cc0_scratch5) (.here (oBnd v8 hw)) (.dma cc0_scratch10.sem) (Memref.isWhole_whole _).wordExact (View.wordExact_bits rfl) ⟨Or.inl rfl, trivial⟩) fun _ =>
  drainAll v8 hw w

/-- The eight blocks' starts, then the rest. -/
def issueAll (v8 : BitVec 32) (hw : k0_chk1 v8) (v9 w : BitVec 32) : BodyProg F PUnit :=
  issue w 0#32 0#32 0 inb_S2048x4096_S2048x512_0_0 <|
  issue w 1#32 1#32 1 inb_S2048x4096_S2048x512_0_512 <|
  issue w 2#32 2#32 2 inb_S2048x4096_S2048x512_0_1024 <|
  issue w 3#32 3#32 3 inb_S2048x4096_S2048x512_0_1536 <|
  issue w 4#32 4#32 4 inb_S2048x4096_S2048x512_0_2048 <|
  issue w 5#32 5#32 5 inb_S2048x4096_S2048x512_0_2560 <|
  issue w 6#32 6#32 6 inb_S2048x4096_S2048x512_0_3072 <|
  issue w 7#32 7#32 7 inb_S2048x4096_S2048x512_0_3584 <|
  middle v8 hw v9 w

/-- The body: the mask and `v` on their way in, the count, the boundary block on its way in, the zero
    buffer, and the rest. -/
def trim : BodyProg F PUnit :=
  .op (.enqueueDma (Memref.whole main_v2) (.here (Memref.whole cc0_scratch0)) (.dma cc0_scratch7.sem) (Memref.isWhole_whole _).wordExact (Memref.isWhole_whole _).wordExact ⟨Or.inl rfl, trivial⟩) fun _ =>
  .op (.enqueueDma (Memref.whole main_v1) (.here (Memref.whole cc0_scratch1)) (.dma cc0_scratch8.sem) (Memref.isWhole_whole _).wordExact (Memref.isWhole_whole _).wordExact ⟨Or.inl rfl, trivial⟩) fun _ =>
  .op (.waitDma2 cc0_scratch7.sem (Memref.whole main_v2) (Memref.whole cc0_scratch0) (Memref.isWhole_whole _).wordExact (Memref.isWhole_whole _).wordExact) fun _ =>
  .op (.load (Memref.whole cc0_scratch0) rM.toLoadRect (View.loadsAt_vmem h_S16x4096)) fun v0 =>
  .op (.assume (k0_chk1 (count v0)) (k0_chk1.dec (count v0))) fun hw =>
  .op (.enqueueDma (xBnd (count v0) hw.down) (.here (Memref.whole cc0_scratch4)) (.dma cc0_scratch10.sem) (View.wordExact_bits rfl) (Memref.isWhole_whole _).wordExact ⟨Or.inl rfl, trivial⟩) fun _ =>
  .op (.load (Memref.whole cc0_scratch6) rB.toLoadRect (View.loadsAt_vmem h_S2048x512)) fun _ =>
  .op (.store (Memref.whole cc0_scratch6) rB (k0_pay2 (F := F)) Finset.univ (View.stores_vmem_bits_univ h_S2048x512 rfl) (.inl rfl)) fun _ =>
  issueAll (count v0) hw.down (Scalar.maxsi (count v0) 1#32) (jword (Scalar.maxsi (count v0) 1#32))

end Cert.Kernel.Trim
end
-- ==== Proof.Printed.lean ====
module
public import proofs.«01_k».proof.Proof.Program

/-! # The printed body is the straight program

Each window of the printed body is a straight program by definition; the windows' binds commute with the
blocks' tests. -/

@[expose] public section
set_option maxRecDepth 16384
noncomputable section
namespace Cert.Kernel.Trim

open Cert.Kernel Cert.Kernel.Gen
open Idealize.ShloMosaic Idealize.ShloMosaic.TcCoe
open Idealize.SL.Sem

variable {F : FTy → Type} [FloatOps F]

theorem issueZ_bind (w b : BitVec 32) (d : ℕ) (h : ∀ a, (![0, 512 * d] : Fin 2 → Nat) a + S2048x512.size a ≤ S2048x4096.size a)
    {α β : Type} (rest : BodyProg F α) (K : α → BodyProg F β) :
    (issueZ w b d h rest).bind K = issueZ w b d h (rest.bind K) := by
  unfold issueZ; split <;> rfl

theorem issue_bind (w b b' : BitVec 32) (d : ℕ) (h : ∀ a, (![0, 512 * d] : Fin 2 → Nat) a + S2048x512.size a ≤ S2048x4096.size a)
    {α β : Type} (rest : BodyProg F α) (K : α → BodyProg F β) :
    (issue w b b' d h rest).bind K = issue w b b' d h (rest.bind K) := by
  unfold issue; split
  · exact congrArg (Prog.op _) (funext fun _ => issueZ_bind ..)
  · exact issueZ_bind ..

theorem drainZ_bind (w b : BitVec 32) (d : ℕ) (h : ∀ a, (![0, 512 * d] : Fin 2 → Nat) a + S2048x512.size a ≤ S2048x4096.size a)
    {α β : Type} (rest : BodyProg F α) (K : α → BodyProg F β) :
    (drainZ w b d h rest).bind K = drainZ w b d h (rest.bind K) := by
  unfold drainZ; split <;> rfl

theorem drain_bind (w b : BitVec 32) (d : ℕ) (h : ∀ a, (![0, 512 * d] : Fin 2 → Nat) a + S2048x512.size a ≤ S2048x4096.size a)
    {α β : Type} (rest : BodyProg F α) (K : α → BodyProg F β) :
    (drain w b d h rest).bind K = drain w b d h (rest.bind K) := by
  unfold drain; split
  · exact congrArg (Prog.op _) (funext fun _ => drainZ_bind ..)
  · exact drainZ_bind ..

/-- What the first window hands on: the count, its side condition, the number of columns kept, the
    boundary block's number, and the zero the second window starts from. -/
abbrev Head : Type := Σ' (v8 : BitVec 32) (_ : k0_chk1 v8) (_ : BitVec 32) (_ : BitVec 32), BitVec 32

/-- The first window: up to the zero buffer. -/
def win1 : BodyProg F Head :=
  .op (.enqueueDma (Memref.whole main_v2) (.here (Memref.whole cc0_scratch0)) (.dma cc0_scratch7.sem) (Memref.isWhole_whole _).wordExact (Memref.isWhole_whole _).wordExact ⟨Or.inl rfl, trivial⟩) fun _ =>
  .op (.enqueueDma (Memref.whole main_v1) (.here (Memref.whole cc0_scratch1)) (.dma cc0_scratch8.sem) (Memref.isWhole_whole _).wordExact (Memref.isWhole_whole _).wordExact ⟨Or.inl rfl, trivial⟩) fun _ =>
  .op (.waitDma2 cc0_scratch7.sem (Memref.whole main_v2) (Memref.whole cc0_scratch0) (Memref.isWhole_whole _).wordExact (Memref.isWhole_whole _).wordExact) fun _ =>
  .op (.load (Memref.whole cc0_scratch0) rM.toLoadRect (View.loadsAt_vmem h_S16x4096)) fun v0 =>
  .op (.assume (k0_chk1 (count v0)) (k0_chk1.dec (count v0))) fun hw =>
  .op (.enqueueDma (xBnd (count v0) hw.down) (.here (Memref.whole cc0_scratch4)) (.dma cc0_scratch10.sem) (View.wordExact_bits rfl) (Memref.isWhole_whole _).wordExact ⟨Or.inl rfl, trivial⟩) fun _ =>
  .op (.load (Memref.whole cc0_scratch6) rB.toLoadRect (View.loadsAt_vmem h_S2048x512)) fun _ =>
  .op (.store (Memref.whole cc0_scratch6) rB (k0_pay2 (F := F)) Finset.univ (View.stores_vmem_bits_univ h_S2048x512 rfl) (.inl rfl)) fun _ =>
  .ret ⟨count v0, hw.down, Scalar.maxsi (count v0) 1#32, jword (Scalar.maxsi (count v0) 1#32), 0#32⟩

/-- The second window: the first five blocks' starts. -/
def win2 (w b : BitVec 32) : BodyProg F (BitVec 32) :=
  issue w b 0#32 0 inb_S2048x4096_S2048x512_0_0 <|
  issue w 1#32 1#32 1 inb_S2048x4096_S2048x512_0_512 <|
  issue w 2#32 2#32 2 inb_S2048x4096_S2048x512_0_1024 <|
  issue w 3#32 3#32 3 inb_S2048x4096_S2048x512_0_1536 <|
  issue w 4#32 4#32 4 inb_S2048x4096_S2048x512_0_2048 <| .ret 5#32

/-- The third window: the last three blocks' starts, then `v` and the mask's test. -/
def win3 (v9 w b : BitVec 32) : BodyProg F (Σ' (_ : IVec S16x4096 1), IVec S16x4096 1) :=
  issue w b 5#32 5 inb_S2048x4096_S2048x512_0_2560 <|
  issue w 6#32 6#32 6 inb_S2048x4096_S2048x512_0_3072 <|
  issue w 7#32 7#32 7 inb_S2048x4096_S2048x512_0_3584 <|
  .op (.waitDma2 cc0_scratch8.sem (Memref.whole main_v1) (Memref.whole cc0_scratch1) (Memref.isWhole_whole _).wordExact (Memref.isWhole_whole _).wordExact) fun _ =>
  .op (.load (Memref.whole cc0_scratch1) rV.toLoadRect (View.loadsAt_vmem h_S64x4096)) fun v85 =>
  .op (.load (Memref.whole cc0_scratch3) rV.toLoadRect (View.loadsAt_vmem h_S64x4096)) fun _ =>
  .op (.store (Memref.whole cc0_scratch3) rV (k0_pay4 (F := F) v9 v85) Finset.univ (View.stores_vmem_bits_univ h_S64x4096 rfl) (.inl rfl)) fun _ =>
  .op (.load (Memref.whole cc0_scratch0) rM.toLoadRect (View.loadsAt_vmem h_S16x4096)) fun v93 =>
  .ret ⟨k0_pay5 (F := F) v93, k0_pay6 v9⟩

/-- The fourth window: the mask out, the boundary block, the first block's waits. -/
def win4 (v8 : BitVec 32) (hw : k0_chk1 v8) (v9 w : BitVec 32) (v95 v96 : IVec S16x4096 1) : BodyProg F (BitVec 32) :=
  .op (.load (Memref.whole cc0_scratch2) rM.toLoadRect (View.loadsAt_vmem h_S16x4096)) fun _ =>
  .op (.store (Memref.whole cc0_scratch2) rM (k0_pay7 v95 v96) Finset.univ (View.stores_vmem_bits_univ h_S16x4096 rfl) (.inl rfl)) fun _ =>
  .op (.enqueueDma (Memref.whole cc0_scratch3) (.here (Memref.whole main_v3_1)) (.dma cc0_scratch9.sem) (Memref.isWhole_whole _).wordExact (Memref.isWhole_whole _).wordExact ⟨Or.inl rfl, trivial⟩) fun _ =>
  .op (.enqueueDma (Memref.whole cc0_scratch2) (.here (Memref.whole main_v3_0)) (.dma cc0_scratch9.sem) (Memref.isWhole_whole _).wordExact (Memref.isWhole_whole _).wordExact ⟨Or.inl rfl, trivial⟩) fun _ =>
  .op (.waitDma2 cc0_scratch10.sem (xBnd v8 hw) (Memref.whole cc0_scratch4) (View.wordExact_bits rfl) (Memref.isWhole_whole _).wordExact) fun _ =>
  .op (.load (Memref.whole cc0_scratch4) rB.toLoadRect (View.loadsAt_vmem h_S2048x512)) fun v112 =>
  .op (.load (Memref.whole cc0_scratch5) rB.toLoadRect (View.loadsAt_vmem h_S2048x512)) fun _ =>
  .op (.store (Memref.whole cc0_scratch5) rB (k0_pay8 (F := F) v9 w v112) Finset.univ (View.stores_vmem_bits_univ h_S2048x512 rfl) (.inl rfl)) fun _ =>
  .op (.enqueueDma (Memref.whole cc0_scratch5) (.here (oBnd v8 hw)) (.dma cc0_scratch10.sem) (Memref.isWhole_whole _).wordExact (View.wordExact_bits rfl) ⟨Or.inl rfl, trivial⟩) fun _ =>
  drain w 0#32 0 inb_S2048x4096_S2048x512_0_0 <|
  .ret (Scalar.extui (Scalar.cmpi .sgt w 1#32))

/-- A block's waits, the first test's word computed before. -/
def drainFrom (w b u : BitVec 32) (d : ℕ) (h : ∀ a, (![0, 512 * d] : Fin 2 → Nat) a + S2048x512.size a ≤ S2048x4096.size a)
    {α : Type} (rest : BodyProg F α) : BodyProg F α :=
  if Scalar.cmpi .ne u 0#32 = 1#1 then
    .op (.waitDma2 cc0_scratch11.sem (xBlk d h) (oBlk d h) (View.wordExact_bits rfl) (View.wordExact_bits rfl))
      fun _ => drainZ w b d h rest
  else drainZ w b d h rest

/-- The fifth window: the waits of blocks one to five. -/
def win5 (w u : BitVec 32) : BodyProg F (BitVec 32) :=
  drainFrom w 1#32 u 1 inb_S2048x4096_S2048x512_0_512 <|
  drain w 2#32 2 inb_S2048x4096_S2048x512_0_1024 <|
  drain w 3#32 3 inb_S2048x4096_S2048x512_0_1536 <|
  drain w 4#32 4 inb_S2048x4096_S2048x512_0_2048 <|
  drain w 5#32 5 inb_S2048x4096_S2048x512_0_2560 <|
  .ret (Scalar.extui (Scalar.cmpi .sgt w 6#32))

/-- The rest: the waits of the last two blocks and the last three waits. -/
def win6 (v8 : BitVec 32) (hw : k0_chk1 v8) (w u : BitVec 32) : BodyProg F PUnit :=
  drainFrom w 6#32 u 6 inb_S2048x4096_S2048x512_0_3072 <|
  drain w 7#32 7 inb_S2048x4096_S2048x512_0_3584 <|
  finish v8 hw

theorem drainFrom_bind (w b u : BitVec 32) (d : ℕ) (h : ∀ a, (![0, 512 * d] : Fin 2 → Nat) a + S2048x512.size a ≤ S2048x4096.size a)
    {α β : Type} (rest : BodyProg F α) (K : α → BodyProg F β) :
    (drainFrom w b u d h rest).bind K = drainFrom w b u d h (rest.bind K) := by
  unfold drainFrom; split
  · exact congrArg (Prog.op _) (funext fun _ => drainZ_bind ..)
  · exact drainZ_bind ..

/-- The printed body is its windows, one after another. -/
theorem bodyAt0_windows (t : Fin grid0.N) : bodyAt0 (F := F) t =
    win1.bind fun r => (win2 r.2.2.2.1 r.2.2.2.2).bind fun b => (win3 r.2.2.1 r.2.2.2.1 b).bind fun m =>
      (win4 r.1 r.2.1 r.2.2.1 r.2.2.2.1 m.1 m.2).bind fun u => (win5 r.2.2.2.1 u).bind fun u' => win6 r.1 r.2.1 r.2.2.2.1 u' := rfl

theorem windows2 (v8 : BitVec 32) (hw : k0_chk1 v8) (v9 w : BitVec 32) :
    ((win2 (F := F) w 0#32).bind fun b => (win3 v9 w b).bind fun m =>
      (win4 v8 hw v9 w m.1 m.2).bind fun u => (win5 w u).bind fun u' => win6 v8 hw w u') = issueAll v8 hw v9 w := by
  unfold win2 win3 win4 win5 issueAll middle
  simp only [issue_bind, drain_bind, drainFrom_bind, Prog.bind]
  rfl

/-- The printed body is the straight program. -/
theorem bodyAt0_eq (t : Fin grid0.N) : bodyAt0 (F := F) t = trim := by
  rw [bodyAt0_windows]
  unfold win1 trim
  simp only [Prog.bind, windows2]

end Cert.Kernel.Trim
end
-- ==== Proof.Words.lean ====
module
public import proofs.«01_k».proof.Proof.Program
public import Idealize.ShloMosaic.Lib.Pointwise
public import Idealize.ShloMosaic.Lib.WordSum
public import Idealize.ShloMosaic.Lib.WordCmp
public import Idealize.ShloMosaic.Lib.Routing.Words

/-! # The words the body computes from the mask

The largest row count of nonzero mask words, the number of columns kept, the boundary block's number and
the tests that compare it with a block's. -/

@[expose] public section
noncomputable section
namespace Cert.Kernel.Trim

open Cert.Kernel Cert.Kernel.Gen
open Idealize.ShloMosaic

variable {F : FTy → Type} [FloatOps F]

/-! ## The largest row count -/

/-- One for a nonzero word, zero for zero. -/
def bit (x : BitVec 32) : BitVec 32 := (IntOp.cmpi .ne x 0#32).setWidth 32

/-- How many words of row `r` are nonzero, as a word. -/
def rowWord (p : Fin 16 → Fin 4096 → BitVec 32) (r : Fin 16) : BitVec 32 := ∑ k : Fin 4096, bit (p r k)

/-- The largest of the sixteen row counts, as a word. -/
def topWord (p : Fin 16 → Fin 4096 → BitVec 32) : BitVec 32 :=
  (Finset.univ : Finset (Fin 16)).fold IntOp.maxsi 2147483648#32 (rowWord p)

theorem bit_toNat_le (x : BitVec 32) : (bit x).toNat ≤ 1 := by
  have h : ∀ b : BitVec 1, (b.setWidth 32).toNat ≤ 1 := by decide
  exact h _

theorem rowWord_toNat_le (p : Fin 16 → Fin 4096 → BitVec 32) (r : Fin 16) : (rowWord p r).toNat ≤ 4096 := by
  have h : ∑ k : Fin 4096, (bit (p r k)).toNat ≤ 4096 := by
    refine (Finset.sum_le_sum (fun k _ => bit_toNat_le (p r k))).trans ?_
    rw [Finset.sum_const, Finset.card_univ, Fintype.card_fin, smul_eq_mul]
  unfold rowWord
  rw [WordSum.toNat_sum _ _ (by omega)]
  exact h

theorem toInt_maxsi (x y : BitVec 32) : (IntOp.maxsi x y).toInt = max x.toInt y.toInt := by
  unfold IntOp.maxsi
  rw [BitVec.slt_eq_decide]
  by_cases h : y.toInt < x.toInt
  · rw [if_pos (by simpa using h)]; omega
  · rw [if_neg (by simpa using h)]; omega

/-- The largest row count is at most the row's length. -/
theorem topWord_toInt_le (p : Fin 16 → Fin 4096 → BitVec 32) : (topWord p).toInt ≤ 4096 := by
  unfold topWord
  refine ((Finset.fold_op_rel_iff_and (op := IntOp.maxsi (w := 32)) (r := fun (c y : BitVec 32) => y.toInt ≤ c.toInt) (c := 4096#32)
    (fun {x y z} => ?_)).2 ⟨by decide, fun r _ => ?_⟩)
  · rw [toInt_maxsi]; omega
  · have h := rowWord_toNat_le p r
    rw [BitVec.toInt_eq_toNat_of_lt (by omega)]
    show ((rowWord p r).toNat : Int) ≤ 4096
    omega

theorem cast_16_1x16 (h : S16.ShapeCasts S1x16) (r : Fin 16) : Shape.reshapeEquiv h (ix2 0 r : S1x16.Idx) = (ix1 r : S16.Idx) :=
  Shape.reshapeEquiv_eq_of_vals h _ _ _ _ (rowMajor_val1 _) (rowMajor_val2 _ 16 rfl) (by simp [ix1, ix2])

/-- Reading a reshaped row at one of its columns. -/
theorem cast_lift (z : IVec S16 32) (j : S1.Idx) (r : Fin 16) :
    (shapeCast S1x16 z shapeCasts_S16_S1x16 ∘ reduces_S1x16_S1.lift j) r = z (ix1 r) := by
  have hl : reduces_S1x16_S1.lift j r = (ix2 0 r : S1x16.Idx) := by
    funext c
    fin_cases c
    · exact (Subsingleton.elim (α := Fin 1) _ _)
    · rfl
  exact (congrArg (shapeCast S1x16 z shapeCasts_S16_S1x16) hl).trans (congrArg z (cast_16_1x16 _ r))

/-- The body's count is the largest row count. -/
theorem count_eq (v0 : Vec F S16x4096 .i32) : count (F := F) v0 = topWord fun r k => v0 (ix2 r k) := by
  have hrow : ∀ r : Fin 16, multiReductionI .add [1] S16 (extui 32 (cmpi .ne v0 (broadcast S16x4096 0#32)) natLt_1_32) 0#32
      reduces_S16x4096_S16 rfl (ix1 r) = rowWord (fun r k => v0 (ix2 r k)) r := fun r => by
    refine (congrFun (multiReductionI_eq_reduceFold _ _ _ _ _) _).trans ?_
    show reduceFold _ (· + ·) (0#32 : BitVec 32) _ _ = _
    rw [reduceFold_add_eq_sum, Shape.Reduces.sum_filter_drop_single]
    show (0 : BitVec 32) + _ = _
    rw [zero_add]
    refine Finset.sum_congr rfl fun k _ => ?_
    show bit (v0 _) = bit (v0 _)
    congr 2
    funext c
    fin_cases c <;> rfl
  unfold count extractAt k0_pay1
  show shapeCast S1x1 (multiReductionI _ _ _ _ _ _ _) _ _ = _
  unfold shapeCast
  refine (multiReductionI_eq_fold _ _ _ _ _ _).trans ?_
  rw [Shape.Reduces.fold_filter_drop_single]
  refine Finset.fold_congr fun r _ => ?_
  rw [← hrow r]
  exact cast_lift _ _ r

/-! ## The number of columns kept and the boundary block -/

/-- The number of columns kept, as the body computes it. -/
abbrev keep (v0 : Vec F S16x4096 .i32) : BitVec 32 := Scalar.maxsi (count (F := F) v0) 1#32

/-- A word between one and the row's length. -/
structure Kept (w : BitVec 32) : Prop where
  pos : 1 ≤ w.toNat
  le : w.toNat ≤ 4096

theorem kept_of_le {x : BitVec 32} (h : x.toInt ≤ 4096) : Kept (Scalar.maxsi x 1#32) := by
  have e : (Scalar.maxsi x 1#32).toInt = max x.toInt 1 := toInt_maxsi x 1#32
  have e' : (Scalar.maxsi x 1#32).toNat = (Scalar.maxsi x 1#32).toInt.toNat := by
    rw [BitVec.toInt_eq_toNat_cond] at *
    split_ifs at * <;> omega
  constructor <;> omega

theorem kept_keep (v0 : Vec F S16x4096 .i32) : Kept (keep (F := F) v0) :=
  kept_of_le (by rw [count_eq]; exact topWord_toInt_le _)

/-- The boundary block's number. -/
abbrev blk (w : BitVec 32) : ℕ := (w.toNat - 1) / 512

theorem Kept.blk_lt {w : BitVec 32} (h : Kept w) : blk w < 8 := by
  have := h.le; unfold blk; omega

/-- The body's boundary block is the block of the last column kept. -/
theorem jword_eq {w : BitVec 32} (h : Kept w) : jword w = BitVec.ofNat 32 (blk w) := by
  obtain ⟨n, hn, rfl⟩ : ∃ n, n < 4096 ∧ w = BitVec.ofNat 32 (n + 1) :=
    ⟨w.toNat - 1, by have := h.le; have := h.pos; omega, by
      apply BitVec.eq_of_toNat_eq
      rw [BitVec.toNat_ofNat]; have := h.le; have := h.pos; omega⟩
  have hb : blk (BitVec.ofNat 32 (n + 1)) = n / 512 := by
    unfold blk; rw [BitVec.toNat_ofNat, Nat.mod_eq_of_lt (by omega)]; rfl
  rw [hb]
  have hs : Scalar.subi (BitVec.ofNat 32 (n + 1)) 1#32 = BitVec.ofNat 32 n := by
    apply BitVec.eq_of_toNat_eq
    show (BitVec.ofNat 32 (n + 1) - 1#32).toNat = _
    rw [BitVec.toNat_sub, BitVec.toNat_ofNat, BitVec.toNat_ofNat, BitVec.toNat_ofNat]
    omega
  have hd : Scalar.divsi (BitVec.ofNat 32 n) 512#32 = BitVec.ofNat 32 (n / 512) :=
    Routing.divsi_word .scalar (by omega) (by omega) (by omega)
  unfold jword
  simp only [hs, hd]
  rcases Nat.eq_zero_or_pos n with rfl | hpos
  · decide
  · have h1 : Scalar.cmpi .sgt (BitVec.ofNat 32 n) 0#32 = 1#1 :=
      (WordCmp.cmpi_sgt_ofNat_eq_one_iff (a := n) (b := 0) (by omega) (by omega)).2 hpos
    have h2 : Scalar.cmpi .slt (BitVec.ofNat 32 n) 0#32 = 0#1 :=
      (WordCmp.cmpi_slt_ofNat_eq_zero_iff (a := n) (b := 0) (by omega) (by omega)).2 (by omega)
    rw [h1, h2]
    have h3 : Scalar.cmpi .ne (Scalar.subi (Scalar.extui 1#1 : BitVec 32) (Scalar.extui 0#1))
        (Scalar.subi (Scalar.extui (Scalar.cmpi .sgt 512#32 0#32) : BitVec 32) (Scalar.extui (Scalar.cmpi .slt 512#32 0#32))) = 0#1 := by decide
    rw [h3]
    have h4 : ∀ x : BitVec 1, Scalar.andi 0#1 x = 0#1 := by decide
    rw [h4]
    rfl

/-- The test "the boundary lies after block `d`" says so. -/
theorem after_iff {k d : ℕ} (hk : k < 8) (hd : d < 8) : after (BitVec.ofNat 32 k) (BitVec.ofNat 32 d) ↔ d < k := by
  have h : ∀ b : BitVec 1, Scalar.cmpi .ne (Scalar.extui b : BitVec 32) 0#32 = b := by decide
  unfold after
  rw [h]
  exact WordCmp.cmpi_sgt_ofNat_eq_one_iff (by omega) (by omega)

/-- The test "the boundary lies before block `d`" says so. -/
theorem before_iff {k d : ℕ} (hk : k < 8) (hd : d < 8) : before (BitVec.ofNat 32 k) (BitVec.ofNat 32 d) ↔ k < d := by
  have h : ∀ b : BitVec 1, Scalar.cmpi .ne (Scalar.extui b : BitVec 32) 0#32 = b := by decide
  unfold before
  rw [h]
  exact WordCmp.cmpi_slt_ofNat_eq_one_iff (by omega) (by omega)

/-- The boundary block's place in the arrays. -/
theorem off_eq {v : BitVec 32} (h : Kept (Scalar.maxsi v 1#32)) : k0_off1 v = ![0, 512 * blk (Scalar.maxsi v 1#32)] := by
  have hj := jword_eq h
  have hb := h.blk_lt
  show ![0, (Scalar.muli (jword (Scalar.maxsi v 1#32)) 512#32).toNat] = _
  rw [hj]
  congr 2
  show (BitVec.ofNat 32 _ * 512#32).toNat = _
  rw [BitVec.toNat_mul, BitVec.toNat_ofNat, BitVec.toNat_ofNat, Nat.mod_eq_of_lt (a := blk _) (by omega)]
  omega

/-- A block's columns lie inside the array. -/
theorem inb_blk {d : ℕ} (hd : d < 8) : ∀ a, (![0, 512 * d] : Fin 2 → Nat) a + S2048x512.size a ≤ S2048x4096.size a := by
  intro a
  match a with
  | 0 => exact Nat.le_refl 2048
  | 1 => show 512 * d + 512 ≤ 4096; omega

/-- The side condition of the boundary block's place. -/
theorem chk_of_kept {v : BitVec 32} (h : Kept (Scalar.maxsi v 1#32)) : k0_chk1 v := by
  unfold k0_chk1
  rw [off_eq h]
  exact inb_blk h.blk_lt

end Cert.Kernel.Trim
end
-- ==== Proof.Blocks.lean ====
module
public import proofs.«01_k».proof.Proof.Words
public import Idealize.ShloMosaic.Lib.Pipeline.Value
public import Idealize.ShloMosaic.Lib.Pipeline.ValueKit.Geometry

/-! # Column blocks

The 4096 columns fall into eight blocks of 512. What a copy of one block writes, and what the boundary
block holds, is stated here for any block number. -/

@[expose] public section
set_option maxRecDepth 16384
noncomputable section
namespace Cert.Kernel.Trim

open Cert.Kernel Cert.Kernel.Gen
open Idealize.ShloMosaic
open Idealize.ShloMosaic.Pipeline

variable {F : FTy → Type} [FloatOps F]

/-- The elements of column block `d`. -/
def cols (d : ℕ) : Finset S2048x4096.Idx :=
  Finset.univ.filter fun i => 512 * d ≤ (i 1).val ∧ (i 1).val < 512 * d + 512

theorem mem_cols {d : ℕ} {i : S2048x4096.Idx} : i ∈ cols d ↔ 512 * d ≤ (i 1).val ∧ (i 1).val < 512 * d + 512 := by
  unfold cols; simp

theorem colRect_set (d : ℕ) (h : ∀ a, (![0, 512 * d] : Fin 2 → Nat) a + S2048x512.size a ≤ S2048x4096.size a) :
    (colRect d h).set = cols d := by
  ext i
  rw [mem_cols]
  refine Rect.mem_set_unit.trans ⟨fun H => H 1, fun H a => ?_⟩
  match a with
  | 0 => exact ⟨Nat.zero_le _, by have := (i 0).isLt; show (i 0).val < 0 + 2048; exact (Nat.zero_add 2048).symm ▸ this⟩
  | 1 => exact H

/-- Different blocks have no element in common. -/
theorem cols_disjoint {d d' : ℕ} (h : d ≠ d') : Disjoint (cols d) (cols d') := by
  rw [Finset.disjoint_left]
  intro i h1 h2
  rw [mem_cols] at h1 h2
  omega

/-- Every element is in one of the eight blocks. -/
theorem cols_cover (i : S2048x4096.Idx) : ∃ d ∈ Finset.range 8, i ∈ cols d := by
  have hi : (i 1).val < 4096 := (i 1).isLt
  exact ⟨(i 1).val / 512, Finset.mem_range.2 (by omega), mem_cols.2 (by omega)⟩

section
variable {d : ℕ} {h : ∀ a, (![0, 512 * d] : Fin 2 → Nat) a + S2048x512.size a ≤ S2048x4096.size a}
  {mx mo : Memref sig .tc .hbm S2048x512 .f32}

theorem xBlk_set : (xBlk d h).view.set = cols d := (View.set_slice_whole main_v0 _).trans (colRect_set d h)
theorem oBlk_set : (oBlk d h).view.set = cols d := (View.set_slice_whole main_v3_2 _).trans (colRect_set d h)

/-- What writing a block leaves at the block's elements. -/
theorem write_blk (g : Vec F S2048x4096 .f32) (b : Vec F S2048x512 .f32) (y : S2048x512.Idx) :
    ((oBlk d h).view.write (Elt F) g b Finset.univ : Vec F S2048x4096 .f32) ((colRect d h).emb y) = b y :=
  (View.write_emb_of_mem (v := (oBlk d h).view) (Val := Elt F) g b (Finset.mem_univ y)).trans rfl

/-- What reading a block yields. -/
theorem read_blk (f : Vec F S2048x4096 .f32) (y : S2048x512.Idx) :
    ((xBlk d h).view.read (Elt F) f : Vec F S2048x512 .f32) y = f ((colRect d h).emb y) := rfl

/-- A block's element is the image of an index of the block. -/
theorem exists_of_mem {i : S2048x4096.Idx} (hi : i ∈ cols d) : ∃ y : S2048x512.Idx, (colRect d h).emb y = i :=
  View.exists_emb_of_mem_set (xBlk d h).view (by rw [xBlk_set]; exact hi)

/-- The column of a block's element. -/
theorem emb_col (y : S2048x512.Idx) : ((colRect d h).emb y 1 : ℕ) = 512 * d + (y 1).val :=
  ValueKit.rect_emb_unit_val (s := S2048x4096) ![0, 512 * d] S2048x512.size h y 1

/-- The image of an index of the block is an element of the block. -/
theorem emb_mem_cols (y : S2048x512.Idx) : (colRect d h).emb y ∈ cols d := by
  have hy : (y 1).val < 512 := (y 1).isLt
  rw [mem_cols, emb_col]
  omega

/-- A block written with contents agreeing with `G` agrees with `G` there. -/
theorem write_blk_of (g G : Vec F S2048x4096 .f32) (b : Vec F S2048x512 .f32) (hb : ∀ y, b y = G ((colRect d h).emb y))
    (i : S2048x4096.Idx) (hi : i ∈ cols d) : ((oBlk d h).view.write (Elt F) g b Finset.univ : Vec F S2048x4096 .f32) i = G i := by
  obtain ⟨y, rfl⟩ := exists_of_mem (h := h) hi
  rw [write_blk, hb]

end

section
variable {d : ℕ} {off : Fin 2 → Nat} {inb : ∀ a, off a + S2048x512.size a ≤ S2048x4096.size a}

/-- A block of the input at a computed place. -/
theorem xOff_set (e : off = ![0, 512 * d]) :
    ((Memref.whole main_v0).slice (Rect.unit (s := S2048x4096) off S2048x512.size inb) (fun _ => rfl)).view.set = cols d := by
  subst e; exact xBlk_set

/-- A block of the output at a computed place. -/
theorem oOff_set (e : off = ![0, 512 * d]) :
    ((Memref.whole main_v3_2).slice (Rect.unit (s := S2048x4096) off S2048x512.size inb) (fun _ => rfl)).view.set = cols d := by
  subst e; exact oBlk_set

/-- What reading a block at a computed place yields. -/
theorem read_off (e : off = ![0, 512 * d]) (h : ∀ a, (![0, 512 * d] : Fin 2 → Nat) a + S2048x512.size a ≤ S2048x4096.size a)
    (f : Vec F S2048x4096 .f32) (y : S2048x512.Idx) :
    (((Memref.whole main_v0).slice (Rect.unit (s := S2048x4096) off S2048x512.size inb) (fun _ => rfl)).view.read (Elt F) f : Vec F S2048x512 .f32) y
      = f ((colRect d h).emb y) := by
  subst e; rfl

/-- A block at a computed place written with contents agreeing with `G` agrees with `G` there. -/
theorem write_off_of (e : off = ![0, 512 * d]) (h : ∀ a, (![0, 512 * d] : Fin 2 → Nat) a + S2048x512.size a ≤ S2048x4096.size a)
    (g G : Vec F S2048x4096 .f32) (b : Vec F S2048x512 .f32) (hb : ∀ y, b y = G ((colRect d h).emb y))
    (i : S2048x4096.Idx) (hi : i ∈ cols d) :
    (((Memref.whole main_v3_2).slice (Rect.unit (s := S2048x4096) off S2048x512.size inb) (fun _ => rfl)).view.write (Elt F) g b Finset.univ
      : Vec F S2048x4096 .f32) i = G i := by
  subst e; exact write_blk_of g G b hb i hi

end

/-- Zero. -/
abbrev zero32 : F .f32 := Scalar.ofBits .f32 0x00000000#32

/-- The kept columns of `f`, the others zero. -/
def kept (n : ℕ) (f : Vec F S2048x4096 .f32) : Vec F S2048x4096 .f32 := fun i => if (i 1).val < n then f i else zero32

/-- Before the boundary block everything is kept. -/
theorem kept_before {w : BitVec 32} (hk : Kept w) {d : ℕ} (hd : d < blk w) (f : Vec F S2048x4096 .f32) {i : S2048x4096.Idx} (hi : i ∈ cols d) :
    kept w.toNat f i = f i := by
  have h1 := hk.pos
  unfold blk at hd
  rw [mem_cols] at hi
  unfold kept
  rw [if_pos (by omega)]

/-- After it nothing is. -/
theorem kept_after {w : BitVec 32} (hk : Kept w) {d : ℕ} (hd : blk w < d) (f : Vec F S2048x4096 .f32) {i : S2048x4096.Idx} (hi : i ∈ cols d) :
    kept w.toNat f i = zero32 := by
  have h1 := hk.pos
  unfold blk at hd
  rw [mem_cols] at hi
  unfold kept
  rw [if_neg (by omega)]

theorem pay2_eq (j : S2048x512.Idx) : k0_pay2 (F := F) j = zero32 := rfl

theorem slt_eq_one_iff {a : ℕ} {w : BitVec 32} (ha : a < 4096) (hk : Kept w) :
    IntOp.cmpi .slt (BitVec.ofNat 32 a) w = 1#1 ↔ a < w.toNat := by
  have h := WordCmp.cmpi_slt_ofNat_eq_one_iff (w := 32) (a := a) (b := w.toNat) (by omega) (by have := hk.le; omega)
  rwa [BitVec.ofNat_toNat, BitVec.setWidth_eq] at h

/-- The boundary block's payload: the kept columns of the block, the others zero. -/
theorem pay8_eq {w : BitVec 32} (hk : Kept w) (h : ∀ a, (![0, 512 * blk w] : Fin 2 → Nat) a + S2048x512.size a ≤ S2048x4096.size a)
    (f : Vec F S2048x4096 .f32) (b : Vec F S2048x512 .f32) (hb : ∀ y, b y = f ((colRect (blk w) h).emb y)) (y : S2048x512.Idx) :
    k0_pay8 (F := F) w (jword w) b y = kept w.toNat f ((colRect (blk w) h).emb y) := by
  have hy : (y 1).val < 512 := (y 1).isLt
  have hl := hk.blk_lt
  have hwd : IntOp.addi (IntOp.muli (jword w) 512#32) (BitVec.ofNat 32 (y 1).val) = BitVec.ofNat 32 (512 * blk w + (y 1).val) := by
    rw [jword_eq hk]
    apply BitVec.eq_of_toNat_eq
    show (BitVec.ofNat 32 (blk w) * 512#32 + BitVec.ofNat 32 (y 1).val).toNat = _
    simp only [BitVec.toNat_add, BitVec.toNat_mul, BitVec.toNat_ofNat]
    omega
  unfold kept
  rw [emb_col, ← hb]
  have hc := slt_eq_one_iff (a := 512 * blk w + (y 1).val) (by omega) hk
  rw [← hwd] at hc
  unfold k0_pay8
  simp only [shapeCast_self]
  show (if IntOp.cmpi .slt (IntOp.addi (IntOp.muli (jword w) 512#32) (BitVec.ofNat 32 (0 * 512 + (y 1).val))) w = 1#1 then b y else zero32) = _
  rw [Nat.zero_mul, Nat.zero_add]
  exact if_congr hc rfl rfl

end Cert.Kernel.Trim
end
-- ==== Proof.Steps.lean ====
module
public import proofs.«01_k».proof.Proof.Blocks

/-! # The steps of a column block

What starting and waiting for one column block does to the resources, stated once for every block. -/

@[expose] public section
set_option maxRecDepth 16384
noncomputable section
namespace Cert.Kernel.Trim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

attribute [local instance] Cert.Kernel.Gen.facts

local notation "𝕄" => MT nD τ sig Unit (Elt F) ℕ (Pipeline.UD sig nD τ) ℕ

/-- The contents of a buffer on a device. -/
abbrev BufT (F : FTy → Type) (c : Dev nD) (b : Ref sig .tc) := Buf (Elt F) ((Memref.whole b).view.loc (c : Thread nD τ))

/-- Elements `S` of the input at share `q`. -/
abbrev xAt (c : Dev nD) (S : Finset S2048x4096.Idx) (q : PosShare TreeShare) (f : Vec F S2048x4096 .f32) : sProp 𝕄 :=
  (Memref.whole main_v0).view.loc (c : Thread nD τ) ↦[S]{q} (f : BufT F c main_v0)

/-- Elements `S` of the output. -/
abbrev oAt (c : Dev nD) (S : Finset S2048x4096.Idx) (f : Vec F S2048x4096 .f32) : sProp 𝕄 :=
  (Memref.whole main_v3_2).view.loc (c : Thread nD τ) ↦[S]{fullShare} (f : BufT F c main_v3_2)

/-- The zero buffer at share `q`. -/
abbrev zAt (c : Dev nD) (q : PosShare TreeShare) (z : Vec F S2048x512 .f32) : sProp 𝕄 :=
  (Memref.whole cc0_scratch6).view.loc (c : Thread nD τ) ↦{q} (z : BufT F c cc0_scratch6)

/-- What block `d` needs while the output holds `G`, the boundary block being `k`: its part of the output, and its part
    of the input if it lies before the boundary, a share of the zero buffer if after it; nothing at the boundary. -/
def piece (c : Dev nD) (f : Vec F S2048x4096 .f32) (z : Vec F S2048x512 .f32) (G : Vec F S2048x4096 .f32) (k d : ℕ) : sProp 𝕄 :=
  if d < k then iprop(oAt c (cols d) G ∗ xAt c (cols d) fullShare f)
  else if k < d then iprop(oAt c (cols d) G ∗ zAt c (shareTokN fullShare (d - (k + 1))) z)
  else iprop(emp)

instance (c : Dev nD) (f : Vec F S2048x4096 .f32) (z : Vec F S2048x512 .f32) (G : Vec F S2048x4096 .f32) (k d : ℕ) : Storable (upEmb : UEmb _ 𝕄) (piece c f z G k d) := by
  unfold piece
  split
  · infer_instance
  · split <;> infer_instance

/-- The units one column block's transfer counts. -/
def blkCredit : ℕ := cc0_scratch6.dmaCredit S2048x512 .f32

theorem blkCredit_pos : 0 < blkCredit := by unfold blkCredit; decide

theorem amount_oBlk (d : ℕ) (h : ∀ a, (![0, 512 * d] : Fin 2 → Nat) a + S2048x512.size a ≤ S2048x4096.size a) (sm : DmaSem sig) :
    (oBlk d h).view.amount (.dma sm) = blkCredit := rfl

theorem credit_oBlk (d : ℕ) (h : ∀ a, (![0, 512 * d] : Fin 2 → Nat) a + S2048x512.size a ≤ S2048x4096.size a) :
    (oBlk d h).view.dmaCredit = 1 * blkCredit := (Nat.one_mul blkCredit).symm

/-- The input copies in flight: `j` started, `u` units waited for. -/
abbrev copies (c : Dev nD) (f : Vec F S2048x4096 .f32) (z : Vec F S2048x512 .f32) (G : Vec F S2048x4096 .f32) (k j u : ℕ) : sProp 𝕄 :=
  Batch (countersEmb (U := Pipeline.UD sig nD τ)) (c : Thread nD τ) (SemLoc.dma cc0_scratch11.sem) ()
    blkCredit (fun t : Fin k => piece c f z G k t.val) j u

/-- The zero copies in flight: `j` started, `u` units waited for. -/
abbrev zeros (c : Dev nD) (f : Vec F S2048x4096 .f32) (z : Vec F S2048x512 .f32) (G : Vec F S2048x4096 .f32) (k j u : ℕ) : sProp 𝕄 :=
  Batch (countersEmb (U := Pipeline.UD sig nD τ)) (c : Thread nD τ) (SemLoc.dma cc0_scratch12.sem) ()
    blkCredit (fun t : Fin (7 - k) => piece c f z G k (k + 1 + t.val)) j u

/-- Before block `d` is started: those before it started, the pieces of the rest in hand. -/
def toIssue (c : Dev nD) (f : Vec F S2048x4096 .f32) (z : Vec F S2048x512 .f32) (g G : Vec F S2048x4096 .f32) (k d : ℕ) : sProp 𝕄 :=
  iprop(copies c f z G k (min d k) 0 ∗ zeros c f z G k (d - (k + 1)) 0 ∗ bigSep (Finset.Ico d 8) (fun d' => piece c f z g k d'))

/-- Before block `d` is waited for: all started, those before it waited for. -/
def toDrain (c : Dev nD) (f : Vec F S2048x4096 .f32) (z : Vec F S2048x512 .f32) (G : Vec F S2048x4096 .f32) (k d : ℕ) : sProp 𝕄 :=
  iprop(copies c f z G k k (min d k * blkCredit) ∗ zeros c f z G k (7 - k) ((d - (k + 1)) * blkCredit)
    ∗ ∃ W, owes (c : Thread nD τ) 0 W)

theorem Ico_peel {d : ℕ} (hd : d < 8) (P : ℕ → sProp 𝕄) :
    bigSep (Finset.Ico d 8) P = iprop(P d ∗ bigSep (Finset.Ico (d + 1) 8) P) := by
  rw [← Finset.insert_Ico_add_one_left_eq_Ico hd, bigSep_insert (by simp)]; rfl

variable {c : Dev nD} {f g G : Vec F S2048x4096 .f32} {z : Vec F S2048x512 .f32} {k d : ℕ} {w b b' : BitVec 32} {rest : BodyProg F PUnit}

theorem piece_lt (hlt : d < k) : piece c f z g k d = iprop(oAt c (cols d) g ∗ xAt c (cols d) fullShare f) := by
  unfold piece; rw [if_pos hlt]

theorem piece_eq : piece c f z g d d = iprop(emp) := by
  unfold piece; rw [if_neg (by omega), if_neg (by omega)]

theorem piece_gt (hgt : k < d) : piece c f z g k d = iprop(oAt c (cols d) g ∗ zAt c (shareTokN fullShare (d - (k + 1))) z) := by
  unfold piece; rw [if_neg (by omega), if_pos hgt]

/-- A block of the input having arrived, the block's piece is at the final contents. -/
theorem delivered_copy (h : ∀ a, (![0, 512 * d] : Fin 2 → Nat) a + S2048x512.size a ≤ S2048x4096.size a) (hlt : d < k) (hG : ∀ i ∈ cols d, f i = G i) :
    iprop(((oBlk d h).view.loc (c : Thread nD τ) ↦[cols d]{fullShare} ((oBlk d h).view.write (Elt F) g ((ReadAs.same).apply ((xBlk d h).view.read (Elt F) f)) Finset.univ))
      ∗ ((xBlk d h).view.loc (c : Thread nD τ) ↦[(xBlk d h).view.set]{fullShare} f)) ⊢ (piece c f z G k d : sProp 𝕄) := by
  rw [piece_lt hlt, xBlk_set]
  refine sep_mono_left (Entails.of_eq (pointsTo_congr fun i hi => ?_))
  exact write_blk_of g G _ (fun y => hG _ (emb_mem_cols y)) i hi

/-- Zeros having arrived, the block's piece is at the final contents. -/
theorem delivered_zero (h : ∀ a, (![0, 512 * d] : Fin 2 → Nat) a + S2048x512.size a ≤ S2048x4096.size a) (hgt : k < d) (hz : ∀ y, z y = zero32) (hZ : ∀ i ∈ cols d, G i = zero32) :
    iprop(((oBlk d h).view.loc (c : Thread nD τ) ↦[cols d]{fullShare} ((oBlk d h).view.write (Elt F) g ((ReadAs.same).apply ((Memref.whole cc0_scratch6).view.read (Elt F) (z : BufT F c cc0_scratch6))) Finset.univ))
      ∗ ((Memref.whole cc0_scratch6).view.loc (c : Thread nD τ) ↦[(Memref.whole cc0_scratch6).view.set]{shareTokN fullShare (d - (k + 1))} (z : BufT F c cc0_scratch6)))
      ⊢ (piece c f z G k d : sProp 𝕄) := by
  rw [piece_gt hgt, show (Memref.whole cc0_scratch6).view.set = Finset.univ from View.set_whole _]
  refine sep_mono_left (Entails.of_eq (pointsTo_congr fun i hi => ?_))
  exact write_blk_of g G _ (fun y => (hz y).trans (hZ _ (emb_mem_cols y)).symm) i hi

/-- Starting a block's copy of the input. -/
theorem issue_copy {Q : PUnit → sProp 𝕄} (h : ∀ a, (![0, 512 * d] : Fin 2 → Nat) a + S2048x512.size a ≤ S2048x4096.size a) (hlt : d < k) (hG : ∀ i ∈ cols d, f i = G i) {kk : PUnit → BodyProg F PUnit} {hs ht hm} :
    iprop(piece c f z g k d ∗ copies c f z G k d 0)
      ⊢ iprop((copies c f z G k (d + 1) 0 -∗ wp frame (wpE (defs₀ (F := F)) Variants.none (c : Thread nD τ) none) Set.univ (kk ⟨⟩) Q)
        -∗ wp frame (wpE (defs₀ (F := F)) Variants.none (c : Thread nD τ) none) Set.univ (.op (.enqueueDma (xBlk d h) (.here (oBlk d h)) (.dma cc0_scratch11.sem) hs ht hm) kk) Q) := by
  rw [piece_lt hlt]
  iintro ⟨⟨Ho, Hx⟩, HB⟩
  iapply (wp_dmaBatch (countersEmb (U := Pipeline.UD sig nD τ)) Variants.none (c : Thread nD τ) none () blkCredit (src := xBlk d h) (dst := oBlk d h) (fs := f) (fd := g) (Sd := cols d)
    (via := ReadAs.same) (D := fun t : Fin k => (piece c f z G k t.val : sProp 𝕄)) (amount_oBlk d h _) (by rw [oBlk_set]) hlt (Nat.zero_le _) (delivered_copy h hlt hG)) $$ [Ho Hx HB]
  isplitl [Hx]; · rw [xBlk_set]; iexact Hx
  isplitl [Ho]; · iexact Ho
  iexact HB

/-- Starting a block's zeros. -/
theorem issue_zero {Q : PUnit → sProp 𝕄} (h : ∀ a, (![0, 512 * d] : Fin 2 → Nat) a + S2048x512.size a ≤ S2048x4096.size a) (hgt : k < d) (hd : d < 8) (hz : ∀ y, z y = zero32) (hZ : ∀ i ∈ cols d, G i = zero32) {kk : PUnit → BodyProg F PUnit} {hs ht hm} :
    iprop(piece c f z g k d ∗ zeros c f z G k (d - (k + 1)) 0)
      ⊢ iprop((zeros c f z G k (d - (k + 1) + 1) 0 -∗ wp frame (wpE (defs₀ (F := F)) Variants.none (c : Thread nD τ) none) Set.univ (kk ⟨⟩) Q)
        -∗ wp frame (wpE (defs₀ (F := F)) Variants.none (c : Thread nD τ) none) Set.univ (.op (.enqueueDma (Memref.whole cc0_scratch6) (.here (oBlk d h)) (.dma cc0_scratch12.sem) hs ht hm) kk) Q) := by
  have hj : d - (k + 1) < 7 - k := by omega
  have hD := delivered_zero (c := c) (f := f) (g := g) (G := G) h hgt hz hZ
  rw [show piece c f z G k d = piece c f z G k (k + 1 + (⟨d - (k + 1), hj⟩ : Fin (7 - k)).val) by congr 1; show d = k + 1 + (d - (k + 1)); omega] at hD
  rw [piece_gt hgt]
  iintro ⟨⟨Ho, Hz⟩, HB⟩
  iapply (wp_dmaBatch (countersEmb (U := Pipeline.UD sig nD τ)) Variants.none (c : Thread nD τ) none () blkCredit (src := Memref.whole cc0_scratch6) (dst := oBlk d h) (fs := (z : BufT F c cc0_scratch6)) (fd := g) (Sd := cols d)
    (q := shareTokN fullShare (d - (k + 1))) (via := ReadAs.same) (D := fun t : Fin (7 - k) => (piece c f z G k (k + 1 + t.val) : sProp 𝕄)) (amount_oBlk d h _) (by rw [oBlk_set]) hj (Nat.zero_le _) hD) $$ [Ho Hz HB]
  isplitl [Hz]; · rw [show (Memref.whole cc0_scratch6).view.set = Finset.univ from View.set_whole _]; iexact Hz
  isplitl [Ho]; · iexact Ho
  iexact HB

/-- Starting block `d`. -/
theorem issue_step {Q : PUnit → sProp 𝕄} (hk : k < 8) (hd : d < 8) (h : ∀ a, (![0, 512 * d] : Fin 2 → Nat) a + S2048x512.size a ≤ S2048x4096.size a)
    (ha : after w b ↔ d < k) (hb : before w b' ↔ k < d)
    (hG : ∀ d < k, ∀ i ∈ cols d, f i = G i) (hz : ∀ y, z y = zero32) (hZ : ∀ d, k < d → ∀ i ∈ cols d, G i = zero32) :
    iprop(toIssue c f z g G k d ∗ (toIssue c f z g G k (d + 1) -∗ wp frame (wpE (defs₀ (F := F)) Variants.none (c : Thread nD τ) none) Set.univ rest Q))
      ⊢ wp frame (wpE (defs₀ (F := F)) Variants.none (c : Thread nD τ) none) Set.univ (issue w b b' d h rest) Q := by
  unfold toIssue
  rw [Ico_peel hd]
  unfold issue issueZ
  rcases lt_trichotomy d k with hlt | heq | hgt
  · rw [if_pos (ha.2 hlt), if_neg (by rw [hb]; omega)]
    rw [Nat.min_eq_left hlt.le, Nat.min_eq_left (show d + 1 ≤ k by omega), show d - (k + 1) = 0 by omega, show d + 1 - (k + 1) = 0 by omega]
    iintro ⟨⟨HB, HZ, Hp, Hr⟩, Hk⟩
    iapply (issue_copy h hlt (hG d hlt)) $$ [Hp HB]
    · isplitl [Hp]; · iexact Hp
      iexact HB
    iintro HB
    iapply Hk
    isplitl [HB]; · iexact HB
    isplitl [HZ]; · iexact HZ
    iexact Hr
  · subst heq
    rw [if_neg (by rw [ha]; omega), if_neg (by rw [hb]; omega)]
    rw [piece_eq, Nat.min_self, Nat.min_eq_right (Nat.le_succ d), show d - (d + 1) = 0 by omega, show d + 1 - (d + 1) = 0 by omega]
    iintro ⟨⟨HB, HZ, -, Hr⟩, Hk⟩
    iapply Hk
    isplitl [HB]; · iexact HB
    isplitl [HZ]; · iexact HZ
    iexact Hr
  · rw [if_neg (by rw [ha]; omega), if_pos (hb.2 hgt)]
    rw [Nat.min_eq_right hgt.le, Nat.min_eq_right (show k ≤ d + 1 by omega), show d + 1 - (k + 1) = d - (k + 1) + 1 by omega]
    iintro ⟨⟨HB, HZ, Hp, Hr⟩, Hk⟩
    iapply (issue_zero h hgt hd hz (hZ d hgt)) $$ [Hp HZ]
    · isplitl [Hp]; · iexact Hp
      iexact HZ
    iintro HZ
    iapply Hk
    isplitl [HB]; · iexact HB
    isplitl [HZ]; · iexact HZ
    iexact Hr

set_option maxHeartbeats 400000 in
/-- Waiting for block `d`. -/
theorem drain_step {Q : PUnit → sProp 𝕄} (hk : k < 8) (hd : d < 8) (h : ∀ a, (![0, 512 * d] : Fin 2 → Nat) a + S2048x512.size a ≤ S2048x4096.size a)
    (ha : after w b ↔ d < k) (hb : before w b ↔ k < d) :
    iprop(toDrain c f z G k d ∗ (toDrain c f z G k (d + 1) -∗ wp frame (wpE (defs₀ (F := F)) Variants.none (c : Thread nD τ) none) Set.univ rest Q))
      ⊢ wp frame (wpE (defs₀ (F := F)) Variants.none (c : Thread nD τ) none) Set.univ (drain w b d h rest) Q := by
  unfold toDrain
  rcases lt_trichotomy d k with hlt | heq | hgt
  · unfold drain drainZ
    rw [if_pos (ha.2 hlt), if_neg (by rw [hb]; omega)]
    rw [Nat.min_eq_left hlt.le, Nat.min_eq_left (show d + 1 ≤ k by omega), show d - (k + 1) = 0 by omega, show d + 1 - (k + 1) = 0 by omega,
      show (d + 1) * blkCredit = d * blkCredit + 1 * blkCredit by ring]
    iintro ⟨⟨HB, HZ, %W, HO⟩, Hk⟩
    iapply (wp_waitBatchMul (countersEmb (U := Pipeline.UD sig nD τ)) Variants.none (c : Thread nD τ) none () 1 (credit_oBlk d h)
      (j := k) (u := d * blkCredit) (by rw [← Nat.add_mul, Nat.mul_comm]; exact Nat.mul_le_mul_left _ (by omega))) $$ [HB HO]
    · isplitl [HB]; · iexact HB
      iexact HO
    iintro ⟨HB, HO⟩
    iapply Hk
    isplitl [HB]; · iexact HB
    isplitl [HZ]; · iexact HZ
    iexists _; iexact HO
  · subst heq
    unfold drain drainZ
    rw [if_neg (by rw [ha]; omega), if_neg (by rw [hb]; omega)]
    rw [Nat.min_self, Nat.min_eq_right (Nat.le_succ d), show d - (d + 1) = 0 by omega, show d + 1 - (d + 1) = 0 by omega]
    iintro ⟨H, Hk⟩
    iapply Hk
    iexact H
  · unfold drain drainZ
    rw [if_neg (by rw [ha]; omega), if_pos (hb.2 hgt)]
    rw [Nat.min_eq_right hgt.le, Nat.min_eq_right (show k ≤ d + 1 by omega), show d + 1 - (k + 1) = d - (k + 1) + 1 by omega,
      show (d - (k + 1) + 1) * blkCredit = (d - (k + 1)) * blkCredit + 1 * blkCredit by ring]
    iintro ⟨⟨HB, HZ, %W, HO⟩, Hk⟩
    iapply (wp_waitBatchMul (countersEmb (U := Pipeline.UD sig nD τ)) Variants.none (c : Thread nD τ) none () 1 (credit_oBlk d h)
      (j := 7 - k) (u := (d - (k + 1)) * blkCredit) (by rw [← Nat.add_mul, Nat.mul_comm]; exact Nat.mul_le_mul_left _ (by omega))) $$ [HZ HO]
    · isplitl [HZ]; · iexact HZ
      iexact HO
    iintro ⟨HZ, HO⟩
    iapply Hk
    isplitl [HB]; · iexact HB
    isplitl [HZ]; · iexact HZ
    iexists _; iexact HO

end Cert.Kernel.Trim
end
-- ==== Proof.Whole.lean ====
module
public import proofs.«01_k».proof.Proof.Steps
public import Idealize.SL.BI.BigOpNat

/-! # Taking the arrays apart into column blocks and putting them together -/

@[expose] public section
set_option maxRecDepth 16384
noncomputable section
namespace Cert.Kernel.Trim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

attribute [local instance] Cert.Kernel.Gen.facts

local notation "𝕄" => MT nD τ sig Unit (Elt F) ℕ (Pipeline.UD sig nD τ) ℕ

variable {c : Dev nD} {f g G : Vec F S2048x4096 .f32} {z : Vec F S2048x512 .f32} {k : ℕ}

/-- What no block's step uses: block `k` of both arrays, the later blocks of the input, the rest of the zero buffer. -/
def aside (c : Dev nD) (f : Vec F S2048x4096 .f32) (z : Vec F S2048x512 .f32) (G : Vec F S2048x4096 .f32) (k : ℕ) : sProp 𝕄 :=
  iprop(oAt c (cols k) G ∗ xAt c (cols k) fullShare f ∗ bigSep (Finset.Ico (k + 1) 8) (fun d => xAt c (cols d) fullShare f)
    ∗ zAt c (shareDrop fullShare (7 - k)) z)

theorem emp_sep_eq (P : sProp 𝕄) : iprop(emp ∗ P) = P := equiv_iff.mp BI.emp_sep

theorem run_split (hk : k < 8) (P : ℕ → sProp 𝕄) :
    bigSep (Finset.range 8) P = iprop(bigSep (Finset.Ico 0 k) P ∗ P k ∗ bigSep (Finset.Ico (k + 1) 8) P) := by
  rw [Finset.range_eq_Ico, ← bigSep_Ico_succ_bot hk, ← Finset.Ico_union_Ico_eq_Ico (Nat.zero_le k) hk.le,
    bigSep_union (Finset.Ico_disjoint_Ico_consecutive 0 k 8)]
  rfl

/-- A buffer of the arrays' shape held by its column blocks. -/
theorem blocks_split {ℓ : Loc nD τ sig} (K : ℕ → Finset (Idx ℓ)) (hK : ∀ i, ∃ d ∈ Finset.range 8, i ∈ K d)
    (hd : ∀ d d', d ≠ d' → Disjoint (K d) (K d')) {q : PosShare TreeShare} {f : Buf (Elt F) ℓ} :
    (ℓ ↦[Finset.univ]{q} f : sProp 𝕄) = bigSep (Finset.range 8) (fun d => (ℓ ↦[K d]{q} f : sProp 𝕄)) := by
  rw [show (Finset.univ : Finset (Idx ℓ)) = (Finset.range 8).biUnion K from
    (Finset.eq_univ_of_forall fun i => Finset.mem_biUnion.2 (hK i)).symm]
  exact pointsTo_biUnion (Finset.range 8) K fun d _ d' _ h => hd d d' h

theorem o_split (hk : k < 8) : oAt c Finset.univ G
    = iprop(bigSep (Finset.Ico 0 k) (fun d => oAt c (cols d) G) ∗ oAt c (cols k) G ∗ bigSep (Finset.Ico (k + 1) 8) (fun d => oAt c (cols d) G)) :=
  (blocks_split (ℓ := (Memref.whole main_v3_2).view.loc (c : Thread nD τ)) (f := (G : BufT F c main_v3_2)) cols cols_cover fun _ _ h => cols_disjoint h).trans
    (run_split hk (fun d => oAt c (cols d) G))

theorem x_split (hk : k < 8) : xAt c Finset.univ fullShare f
    = iprop(bigSep (Finset.Ico 0 k) (fun d => xAt c (cols d) fullShare f) ∗ xAt c (cols k) fullShare f
      ∗ bigSep (Finset.Ico (k + 1) 8) (fun d => xAt c (cols d) fullShare f)) :=
  (blocks_split (ℓ := (Memref.whole main_v0).view.loc (c : Thread nD τ)) (f := (f : BufT F c main_v0)) cols cols_cover fun _ _ h => cols_disjoint h).trans
    (run_split hk (fun d => xAt c (cols d) fullShare f))

/-- A run of the blocks after `k`, counted from `k + 1`. -/
theorem run_fin (hk : k < 8) (P : ℕ → sProp 𝕄) :
    bigSep Finset.univ (fun t : Fin (7 - k) => P (k + 1 + t.val)) = bigSep (Finset.Ico (k + 1) 8) P := by
  have h := Finset.map_add_right_Ico 0 (7 - k) (k + 1)
  rw [show 0 + (k + 1) = k + 1 by omega, show 7 - k + (k + 1) = 8 by omega] at h
  rw [← h, bigSep_map, ← Finset.range_eq_Ico, ← Nat.Iio_eq_range, ← Fin.map_valEmbedding_univ, bigSep_map]
  exact bigSep_congr fun t _ => congrArg P (Nat.add_comm (k + 1) t.val)

/-- A run of the blocks before `k`. -/
theorem run_fin' (P : ℕ → sProp 𝕄) : bigSep Finset.univ (fun t : Fin k => P t.val) = bigSep (Finset.Ico 0 k) P := by
  rw [← Finset.range_eq_Ico, ← Nat.Iio_eq_range, ← Fin.map_valEmbedding_univ, bigSep_map]
  rfl

theorem z_split (hk : k < 8) : zAt c fullShare z
    ⊣⊢ iprop(zAt c (shareDrop fullShare (7 - k)) z ∗ bigSep (Finset.Ico (k + 1) 8) (fun d => zAt c (shareTokN fullShare (d - (k + 1))) z)) := by
  have h := pointsTo_toks (Ix := Unit) (U := Pipeline.UD sig nD τ) (Lvl := ℕ) (Name := ℕ) (ℓ := (Memref.whole cc0_scratch6).view.loc (c : Thread nD τ)) (S := Finset.univ) (f := (z : BufT F c cc0_scratch6)) fullShare (7 - k)
  rw [← run_fin hk (fun d => zAt c (shareTokN fullShare (d - (k + 1))) z)]
  simp only [Nat.add_sub_cancel_left]
  exact h

/-- The pieces before and after the boundary. -/
theorem pieces_split (hk : k < 8) : bigSep (Finset.Ico 0 8) (fun d => piece c f z G k d)
    = iprop(bigSep (Finset.Ico 0 k) (fun d => piece c f z G k d) ∗ bigSep (Finset.Ico (k + 1) 8) (fun d => piece c f z G k d)) := by
  rw [← Finset.range_eq_Ico, run_split hk, piece_eq, emp_sep_eq]

theorem before_split : bigSep (Finset.Ico 0 k) (fun d => piece c f z G k d)
    = iprop(bigSep (Finset.Ico 0 k) (fun d => oAt c (cols d) G) ∗ bigSep (Finset.Ico 0 k) (fun d => xAt c (cols d) fullShare f)) := by
  rw [bigSep_congr fun d hd => piece_lt (Finset.mem_Ico.mp hd).2]
  exact bigSep_sep _ _ _

theorem after_split : bigSep (Finset.Ico (k + 1) 8) (fun d => piece c f z G k d)
    = iprop(bigSep (Finset.Ico (k + 1) 8) (fun d => oAt c (cols d) G) ∗ bigSep (Finset.Ico (k + 1) 8) (fun d => zAt c (shareTokN fullShare (d - (k + 1))) z)) := by
  rw [bigSep_congr fun d hd => piece_gt (Finset.mem_Ico.mp hd).1]
  exact bigSep_sep _ _ _

/-- The output and the zero buffer taken apart, with the input already apart and its boundary block lent out. -/
theorem take_apart (hk : k < 8) : iprop(oAt c Finset.univ G
      ∗ (bigSep (Finset.Ico 0 k) (fun d => xAt c (cols d) fullShare f) ∗ bigSep (Finset.Ico (k + 1) 8) (fun d => xAt c (cols d) fullShare f))
      ∗ zAt c fullShare z)
    ⊢ iprop(bigSep (Finset.Ico 0 8) (fun d => piece c f z G k d) ∗ oAt c (cols k) G
      ∗ bigSep (Finset.Ico (k + 1) 8) (fun d => xAt c (cols d) fullShare f) ∗ zAt c (shareDrop fullShare (7 - k)) z) := by
  rw [pieces_split hk, before_split, after_split, o_split hk]
  iintro ⟨⟨Ho1, Ho2, Ho3⟩, ⟨Hx1, Hx3⟩, Hz⟩
  ihave Hz' := (z_split hk).1 $$ Hz
  icases Hz' with ⟨Hz1, Hz2⟩
  isplitl [Ho1 Hx1 Ho3 Hz2]
  · isplitl [Ho1 Hx1]
    · isplitl [Ho1]; · iexact Ho1
      iexact Hx1
    isplitl [Ho3]; · iexact Ho3
    iexact Hz2
  isplitl [Ho2]; · iexact Ho2
  isplitl [Hx3]; · iexact Hx3
  iexact Hz1

/-- The arrays and the zero buffer put together. -/
theorem put_together (hk : k < 8) : iprop(bigSep (Finset.Ico 0 k) (fun d => piece c f z G k d) ∗ bigSep (Finset.Ico (k + 1) 8) (fun d => piece c f z G k d) ∗ aside c f z G k)
    ⊢ iprop(oAt c Finset.univ G ∗ xAt c Finset.univ fullShare f ∗ zAt c fullShare z) := by
  rw [before_split, after_split, o_split hk, x_split hk]
  unfold aside
  iintro ⟨⟨Ho1, Hx1⟩, ⟨Ho3, Hz2⟩, ⟨Ho2, Hx2, Hx3, Hz1⟩⟩
  isplitl [Ho1 Ho2 Ho3]
  · isplitl [Ho1]; · iexact Ho1
    isplitl [Ho2]; · iexact Ho2
    iexact Ho3
  isplitl [Hx1 Hx2 Hx3]
  · isplitl [Hx1]; · iexact Hx1
    isplitl [Hx2]; · iexact Hx2
    iexact Hx3
  iapply (z_split hk).2
  isplitl [Hz1]; · iexact Hz1
  iexact Hz2

/-- Ready to start block 0. -/
theorem enter : iprop(bigSep (Finset.Ico 0 8) (fun d => piece c f z g k d) ∗ semVal ((c : Thread nD τ), SemLoc.dma cc0_scratch11.sem) 0
      ∗ semVal ((c : Thread nD τ), SemLoc.dma cc0_scratch12.sem) 0)
    ⊢ |={Set.univ}=> toIssue c f z g G k 0 := by
  iintro ⟨Hp, H1, H2⟩
  imod (batch_alloc' (Lvl := ℕ) (countersEmb (U := Pipeline.UD sig nD τ)) (c : Thread nD τ) () blkCredit (fun t : Fin k => (piece c f z G k t.val : sProp 𝕄))
    (sm := SemLoc.dma cc0_scratch11.sem) (E := Set.univ)) $$ H1 with HB
  imod (batch_alloc' (Lvl := ℕ) (countersEmb (U := Pipeline.UD sig nD τ)) (c : Thread nD τ) () blkCredit (fun t : Fin (7 - k) => (piece c f z G k (k + 1 + t.val) : sProp 𝕄))
    (sm := SemLoc.dma cc0_scratch12.sem) (E := Set.univ)) $$ H2 with HZ
  imodintro
  unfold toIssue
  rw [Nat.zero_min, Nat.zero_sub]
  isplitl [HB]; · iexact HB
  isplitl [HZ]; · iexact HZ
  iexact Hp

/-- With every block started the waits may begin. -/
theorem turn (hk : k < 8) {W : Waits sig Unit} : iprop(toIssue c f z g G k 8 ∗ owes (c : Thread nD τ) 0 W) ⊢ toDrain c f z G k 0 := by
  unfold toIssue toDrain
  rw [Nat.min_eq_right hk.le, show 8 - (k + 1) = 7 - k by omega, Nat.zero_min, Nat.zero_sub, Nat.zero_mul]
  iintro ⟨⟨HB, HZ, -⟩, HO⟩
  isplitl [HB]; · iexact HB
  isplitl [HZ]; · iexact HZ
  iexists W; iexact HO

/-- With every block waited for everything is back. -/
theorem leave (hk : k < 8) : toDrain c f z G k 8
    ⊢ |={Set.univ}=> iprop(bigSep (Finset.Ico 0 k) (fun d => piece c f z G k d) ∗ bigSep (Finset.Ico (k + 1) 8) (fun d => piece c f z G k d)
      ∗ semVal ((c : Thread nD τ), SemLoc.dma cc0_scratch11.sem) 0 ∗ semVal ((c : Thread nD τ), SemLoc.dma cc0_scratch12.sem) 0
      ∗ ∃ W, owes (c : Thread nD τ) 0 W) := by
  unfold toDrain
  rw [Nat.min_eq_right hk.le, show 8 - (k + 1) = 7 - k by omega, Nat.mul_comm k, Nat.mul_comm (7 - k)]
  rw [← run_fin' (fun d => piece c f z G k d), ← run_fin hk (fun d => piece c f z G k d)]
  iintro ⟨HB, HZ, HO⟩
  imod (batch_collect' (countersEmb (U := Pipeline.UD sig nD τ)) (c : Thread nD τ) blkCredit_pos) $$ HB with ⟨HD, Hs⟩
  imod (batch_collect' (countersEmb (U := Pipeline.UD sig nD τ)) (c : Thread nD τ) blkCredit_pos) $$ HZ with ⟨HD', Hs'⟩
  imodintro
  isplitl [HD]; · iexact HD
  isplitl [HD']; · iexact HD'
  isplitl [Hs]; · iexact Hs
  isplitl [Hs']; · iexact Hs'
  iexact HO

end Cert.Kernel.Trim
end
-- ==== Proof.Body.lean ====
module
public import proofs.«01_k».proof.Proof.Whole

/-! # The body

The body run from the inputs and anything in the outputs and scratch buffers: the outputs end at the
trimmed arrays and everything else comes back. -/

@[expose] public section
set_option maxRecDepth 16384
noncomputable section
namespace Cert.Kernel.Trim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

attribute [local instance] Cert.Kernel.Gen.facts

local notation "𝕄" => MT nD τ sig Unit (Elt F) ℕ (Pipeline.UD sig nD τ) ℕ

/-- A whole buffer. -/
abbrev pt (c : Dev nD) (b : Ref sig .tc) (f : BufT F c b) : sProp 𝕄 :=
  (Memref.whole b).view.loc (c : Thread nD τ) ↦{fullShare} f

/-- A semaphore cell at zero. -/
abbrev idle (c : Dev nD) (s : DmaSem sig) : sProp 𝕄 := semVal ((c : Thread nD τ), SemLoc.dma s) 0

/-- Running a program. -/
abbrev run (c : Dev nD) (p : BodyProg F PUnit) (Q : PUnit → sProp 𝕄) : sProp 𝕄 :=
  wp frame (wpE (defs₀ (F := F)) Variants.none (c : Thread nD τ) none) Set.univ p Q

/-- A wait's record. -/
abbrev waited (c : Dev nD) : sProp 𝕄 := iprop(∃ W, owes (c : Thread nD τ) 0 W)

theorem zero_off2 : (![0, 0] : Fin 2 → Nat) = fun _ => 0 := by
  funext a; match a with | 0 => rfl | 1 => rfl

variable {c : Dev nD}

/-- Loading a whole scratch buffer. -/
theorem load_all {i : Fin (sig.nNear Kind.tc .vmem)} {hκ : sig.names Kind.tc .vmem i = true}
    {off : Fin (Ref.mk .vmem i hκ : Ref sig .tc).ty.shape.rank → Nat} (h0 : off = fun _ => 0)
    {inb : ∀ a, off a + (Ref.mk .vmem i hκ : Ref sig .tc).ty.shape.size a ≤ (Ref.mk .vmem i hκ : Ref sig .tc).ty.shape.size a}
    {hl : (Memref.whole (Ref.mk .vmem i hκ : Ref sig .tc)).view.LoadsAt (Rect.unit off _ inb).toLoadRect}
    {k : ((Ref.mk .vmem i hκ : Ref sig .tc).ty.Contents (Elt F)) → BodyProg F PUnit}
    {f : BufT F c ⟨.vmem, i, hκ⟩} {Q : PUnit → sProp 𝕄} :
    pt c ⟨.vmem, i, hκ⟩ f ⊢ iprop((pt c ⟨.vmem, i, hκ⟩ f -∗ run c (k f) Q)
      -∗ run c (.op (.load (Memref.whole ⟨.vmem, i, hκ⟩) (Rect.unit off _ inb).toLoadRect hl) k) Q) := by
  have h := wp_load (defs := defs₀ (F := F)) Variants.none (c : Thread nD τ) none (Γ := .nil) Set.univ (Q := Q) (m := Memref.whole (Ref.mk .vmem i hκ : Ref sig .tc))
    (r := (Rect.unit off _ inb).toLoadRect) (hl := hl) (k := k) (q := fullShare) (f := f) (S := Finset.univ) (Finset.subset_univ _)
  rwa [Memref.readAt_unit_zero (Elt F) _ h0] at h

/-- Storing a whole scratch buffer. -/
theorem store_all {i : Fin (sig.nNear Kind.tc .vmem)} {hκ : sig.names Kind.tc .vmem i = true}
    {off : Fin (Ref.mk .vmem i hκ : Ref sig .tc).ty.shape.rank → Nat} (h0 : off = fun _ => 0)
    {inb : ∀ a, off a + (Ref.mk .vmem i hκ : Ref sig .tc).ty.shape.size a ≤ (Ref.mk .vmem i hκ : Ref sig .tc).ty.shape.size a}
    {w : (Ref.mk .vmem i hκ : Ref sig .tc).ty.Contents (Elt F)}
    {hx : ((Memref.whole (Ref.mk .vmem i hκ : Ref sig .tc)).access (Rect.unit off _ inb)).Stores Finset.univ}
    {hm : Finset.univ = Finset.univ ∨ ∀ a, (Rect.unit off _ inb : Rect (Ref.mk .vmem i hκ : Ref sig .tc).ty.shape).stride a = 1}
    {k : PUnit → BodyProg F PUnit}
    {f : BufT F c ⟨.vmem, i, hκ⟩} {Q : PUnit → sProp 𝕄} :
    pt c ⟨.vmem, i, hκ⟩ f ⊢ iprop((pt c ⟨.vmem, i, hκ⟩ w -∗ run c (k ⟨⟩) Q)
      -∗ run c (.op (.store (Memref.whole ⟨.vmem, i, hκ⟩) (Rect.unit off _ inb) w Finset.univ hx hm) k) Q) := by
  have h := wp_store (defs := defs₀ (F := F)) Variants.none (c : Thread nD τ) none (Γ := .nil) Set.univ (Q := Q) (m := Memref.whole (Ref.mk .vmem i hκ : Ref sig .tc))
    (r := Rect.unit off _ inb) (w := w) (Mk := Finset.univ) (hx := hx) (hm := hm) (k := k) (f := f) (S := Finset.univ) (Finset.subset_univ _)
  rwa [Memref.write_access_unit_zero_univ (Elt F) _ h0] at h

/-- The units the mask's transfer counts. -/
def mCredit : ℕ := cc0_scratch0.dmaCredit S16x4096 .i32
/-- The units `v`'s transfer counts. -/
def vCredit : ℕ := cc0_scratch1.dmaCredit S64x4096 .f32
theorem mCredit_pos : 0 < mCredit := by unfold mCredit; decide
theorem vCredit_pos : 0 < vCredit := by unfold vCredit; decide

/-- The mask on its way in. -/
abbrev maskIn (c : Dev nD) (fm : BufT F c main_v2) : sProp 𝕄 :=
  Flight (countersEmb (U := Pipeline.UD sig nD τ)) (c : Thread nD τ) (SemLoc.dma cc0_scratch7.sem) () mCredit iprop(pt c cc0_scratch0 (fm : Vec F S16x4096 .i32) ∗ pt c main_v2 fm)

/-- `v` on its way in. -/
abbrev vIn (c : Dev nD) (fv : BufT F c main_v1) : sProp 𝕄 :=
  Flight (countersEmb (U := Pipeline.UD sig nD τ)) (c : Thread nD τ) (SemLoc.dma cc0_scratch8.sem) () vCredit iprop(pt c cc0_scratch1 (fv : Vec F S64x4096 .f32) ∗ pt c main_v1 fv)

/-- The boundary block on its way in. -/
abbrev bndIn (c : Dev nD) (k : ℕ) (b : Vec F S2048x512 .f32) (f : Vec F S2048x4096 .f32) : sProp 𝕄 :=
  Flight (countersEmb (U := Pipeline.UD sig nD τ)) (c : Thread nD τ) (SemLoc.dma cc0_scratch10.sem) () blkCredit iprop(pt c cc0_scratch4 b ∗ xAt c (cols k) fullShare f)

/-- The boundary block on its way out. -/
abbrev bndOut (c : Dev nD) (k : ℕ) (b : Vec F S2048x512 .f32) (G : Vec F S2048x4096 .f32) : sProp 𝕄 :=
  Flight (countersEmb (U := Pipeline.UD sig nD τ)) (c : Thread nD τ) (SemLoc.dma cc0_scratch10.sem) () blkCredit iprop(oAt c (cols k) G ∗ pt c cc0_scratch5 b)

/-- What the two transfers of `v` and the mask out deliver. -/
def sent (c : Dev nD) (ov : Vec F S64x4096 .f32) (om : Vec F S16x4096 .i32) : Fin 2 → sProp 𝕄
  | 0 => iprop(pt c main_v3_1 ov ∗ pt c cc0_scratch3 ov)
  | 1 => iprop(pt c main_v3_0 om ∗ pt c cc0_scratch2 om)

instance (c : Dev nD) (ov : Vec F S64x4096 .f32) (om : Vec F S16x4096 .i32) (t : Fin 2) : Storable (upEmb : UEmb _ 𝕄) (sent c ov om t) :=
  match t with
  | 0 => inferInstanceAs (Storable (upEmb : UEmb _ 𝕄) iprop(pt c main_v3_1 ov ∗ pt c cc0_scratch3 ov))
  | 1 => inferInstanceAs (Storable (upEmb : UEmb _ 𝕄) iprop(pt c main_v3_0 om ∗ pt c cc0_scratch2 om))

/-- The units of the two. -/
def sentCredit : Fin 2 → ℕ
  | 0 => vCredit
  | 1 => mCredit

/-- The two transfers of `v` and the mask out: `j` started, `u` units waited for. -/
abbrev outs (c : Dev nD) (ov : Vec F S64x4096 .f32) (om : Vec F S16x4096 .i32) (j u : ℕ) : sProp 𝕄 :=
  MixedBatch (countersEmb (U := Pipeline.UD sig nD τ)) (c : Thread nD τ) (SemLoc.dma cc0_scratch9.sem) () sentCredit (sent c ov om) j u

variable {fm : BufT F c main_v2} {fv : BufT F c main_v1} {f G g : Vec F S2048x4096 .f32} {z : Vec F S2048x512 .f32} {k : ℕ}
  {v w : BitVec 32} {hw : k0_chk1 v}

/-- Starting a transfer on an idle cell, for anything what it delivers yields. -/
theorem start {sp sp' : Space} {s : Shape} {e : EltTy} {src : Memref sig .tc sp s e} {dst : Memref sig .tc sp' s e} {sm : DmaSem sig}
    {hs ht hm} {kk : PUnit → BodyProg F PUnit} {Q : PUnit → sProp 𝕄} {q : PosShare TreeShare}
    {fs : Buf (Elt F) (src.view.loc (c : Thread nD τ))} {fd : Buf (Elt F) (dst.view.loc (c : Thread nD τ))}
    {Ss : Finset (Idx (src.view.loc (c : Thread nD τ)))} {Sd : Finset (Idx (dst.view.loc (c : Thread nD τ)))} {N : ℕ} {D : sProp 𝕄}
    (hN : dst.view.amount (SemLoc.dma sm) = N) (hN0 : 0 < N) (hSs : src.view.set = Ss) (hSd : dst.view.set ⊆ Sd)
    (hD : iprop((dst.view.loc (c : Thread nD τ) ↦[Sd]{fullShare} (dst.view.write (Elt F) fd (src.view.read (Elt F) fs) Finset.univ))
      ∗ (src.view.loc (c : Thread nD τ) ↦[Ss]{q} fs)) ⊢ D) :
    iprop((src.view.loc (c : Thread nD τ) ↦[Ss]{q} fs) ∗ (dst.view.loc (c : Thread nD τ) ↦[Sd]{fullShare} fd) ∗ idle c sm)
      ⊢ iprop((Flight (countersEmb (U := Pipeline.UD sig nD τ)) (c : Thread nD τ) (SemLoc.dma sm) () N D -∗ run c (kk ⟨⟩) Q)
        -∗ run c (.op (.enqueueDma src (.here dst) (.dma sm) hs ht hm) kk) Q) := by
  subst hSs
  iintro H Hk
  iapply (wp_dmaLocal (countersEmb (U := Pipeline.UD sig nD τ)) Variants.none (c : Thread nD τ) none () N (src := src) (dst := dst)
    (q := q) (fs := fs) (fd := fd) (Sd := Sd) (via := ReadAs.same) hN hN0 hSd) $$ H
  iintro HF
  iapply Hk
  iapply (Flight_mono (countersEmb (U := Pipeline.UD sig nD τ)) (c : Thread nD τ) (sm := SemLoc.dma sm) (ι := ()) (N := N) hD) $$ HF

/-- Waiting for a transfer. -/
theorem await {sp sp' : Space} {s s' : Shape} {e e' : EltTy} {src : Memref sig .tc sp s e} {dst : Memref sig .tc sp' s' e'} {sm : DmaSem sig}
    {hs hd} {kk : PUnit → BodyProg F PUnit} {Q : PUnit → sProp 𝕄} {N : ℕ} {D : sProp 𝕄} (hN : dst.view.dmaCredit = N) :
    iprop(Flight (countersEmb (U := Pipeline.UD sig nD τ)) (c : Thread nD τ) (SemLoc.dma sm) () N D ∗ waited c)
      ⊢ iprop((iprop(D ∗ idle c sm ∗ waited c) -∗ run c (kk ⟨⟩) Q)
        -∗ run c (.op (.waitDma2 sm src dst hs hd) kk) Q) := by
  iintro ⟨HF, ⟨%W, HO⟩⟩ Hk
  iapply (wp_waitLocal (countersEmb (U := Pipeline.UD sig nD τ)) Variants.none (c : Thread nD τ) none () hN (W := W)) $$ [HF HO]
  · isplitl [HF]; · iexact HF
    iexact HO
  iintro ⟨HD, Hs, HO⟩
  iapply Hk
  isplitl [HD]; · iexact HD
  isplitl [Hs]; · iexact Hs
  iexists _; iexact HO

/-- Starting the mask on its way in. -/
theorem start_mask {g0 : BufT F c cc0_scratch0} {kk : PUnit → BodyProg F PUnit} {hs ht hm} {Q : PUnit → sProp 𝕄} :
    iprop(pt c main_v2 fm ∗ pt c cc0_scratch0 g0 ∗ idle c cc0_scratch7.sem) ⊢ iprop((maskIn c fm -∗ run c (kk ⟨⟩) Q)
      -∗ run c (.op (.enqueueDma (Memref.whole main_v2) (.here (Memref.whole cc0_scratch0)) (.dma cc0_scratch7.sem) hs ht hm) kk) Q) :=
  start (src := Memref.whole main_v2) (dst := Memref.whole cc0_scratch0) (N := mCredit) (q := fullShare) (fs := fm) (fd := g0) (Ss := Finset.univ) (Sd := Finset.univ)
    rfl mCredit_pos (View.set_whole _) (Finset.subset_univ _)
    (sep_mono_left (Entails.of_eq (congrArg (pt c cc0_scratch0) (View.write_whole_univ _ _ _))))

/-- Starting `v` on its way in. -/
theorem start_v {g0 : BufT F c cc0_scratch1} {kk : PUnit → BodyProg F PUnit} {hs ht hm} {Q : PUnit → sProp 𝕄} :
    iprop(pt c main_v1 fv ∗ pt c cc0_scratch1 g0 ∗ idle c cc0_scratch8.sem) ⊢ iprop((vIn c fv -∗ run c (kk ⟨⟩) Q)
      -∗ run c (.op (.enqueueDma (Memref.whole main_v1) (.here (Memref.whole cc0_scratch1)) (.dma cc0_scratch8.sem) hs ht hm) kk) Q) :=
  start (src := Memref.whole main_v1) (dst := Memref.whole cc0_scratch1) (N := vCredit) (q := fullShare) (fs := fv) (fd := g0) (Ss := Finset.univ) (Sd := Finset.univ)
    rfl vCredit_pos (View.set_whole _) (Finset.subset_univ _)
    (sep_mono_left (Entails.of_eq (congrArg (pt c cc0_scratch1) (View.write_whole_univ _ _ _))))

/-- What the boundary block of the input reads, at the place computed from the count. -/
def bndRead (f : Vec F S2048x4096 .f32) (v : BitVec 32) (hw : k0_chk1 v) : Vec F S2048x512 .f32 := (xBnd v hw).view.read (Elt F) f

/-- Starting the boundary block on its way in. -/
theorem start_bnd (e : k0_off1 v = ![0, 512 * k]) {g0 : BufT F c cc0_scratch4} {kk : PUnit → BodyProg F PUnit} {hs ht hm} {Q : PUnit → sProp 𝕄} :
    iprop(xAt c (cols k) fullShare f ∗ pt c cc0_scratch4 g0 ∗ idle c cc0_scratch10.sem) ⊢ iprop((bndIn c k (bndRead f v hw) f -∗ run c (kk ⟨⟩) Q)
      -∗ run c (.op (.enqueueDma (xBnd v hw) (.here (Memref.whole cc0_scratch4)) (.dma cc0_scratch10.sem) hs ht hm) kk) Q) :=
  start (src := xBnd v hw) (dst := Memref.whole cc0_scratch4) (N := blkCredit) (q := fullShare) (fs := f) (fd := g0) (Ss := cols k) (Sd := Finset.univ)
    rfl blkCredit_pos (xOff_set e) (Finset.subset_univ _)
    (sep_mono_left (Entails.of_eq (congrArg (pt c cc0_scratch4) (View.write_whole_univ _ _ _))))

/-- Starting the boundary block on its way out. -/
theorem start_out (e : k0_off1 v = ![0, 512 * k]) (h : ∀ a, (![0, 512 * k] : Fin 2 → Nat) a + S2048x512.size a ≤ S2048x4096.size a)
    {b : Vec F S2048x512 .f32} (hb : ∀ y, b y = G ((colRect k h).emb y)) {kk : PUnit → BodyProg F PUnit} {hs ht hm} {Q : PUnit → sProp 𝕄} :
    iprop(pt c cc0_scratch5 b ∗ oAt c (cols k) g ∗ idle c cc0_scratch10.sem) ⊢ iprop((bndOut c k b G -∗ run c (kk ⟨⟩) Q)
      -∗ run c (.op (.enqueueDma (Memref.whole cc0_scratch5) (.here (oBnd v hw)) (.dma cc0_scratch10.sem) hs ht hm) kk) Q) :=
  start (src := Memref.whole cc0_scratch5) (dst := oBnd v hw) (N := blkCredit) (q := fullShare) (fs := (b : BufT F c cc0_scratch5)) (fd := (g : BufT F c main_v3_2)) (Ss := Finset.univ) (Sd := cols k)
    rfl blkCredit_pos (View.set_whole _) (by rw [oOff_set e])
    (sep_mono_left (Entails.of_eq (pointsTo_congr fun i hi => write_off_of e h g G b hb i hi)))

variable {ov : Vec F S64x4096 .f32} {om : Vec F S16x4096 .i32}

theorem sentCredit_pos : ∀ t, 0 < sentCredit t
  | 0 => vCredit_pos
  | 1 => mCredit_pos

/-- The outputs' cell, made ready. -/
theorem ready : idle c cc0_scratch9.sem ⊢ |={Set.univ}=> outs c ov om 0 0 :=
  mixedBatch_alloc' (Lvl := ℕ) (countersEmb (U := Pipeline.UD sig nD τ)) (c : Thread nD τ) () sentCredit (sent c ov om) (sm := SemLoc.dma cc0_scratch9.sem) (E := Set.univ)

/-- Starting `v` on its way out. -/
theorem send_v {g0 : BufT F c main_v3_1} {kk : PUnit → BodyProg F PUnit} {hs ht hm} {Q : PUnit → sProp 𝕄} :
    iprop(pt c cc0_scratch3 ov ∗ pt c main_v3_1 g0 ∗ outs c ov om 0 0) ⊢ iprop((outs c ov om 1 0 -∗ run c (kk ⟨⟩) Q)
      -∗ run c (.op (.enqueueDma (Memref.whole cc0_scratch3) (.here (Memref.whole main_v3_1)) (.dma cc0_scratch9.sem) hs ht hm) kk) Q) := by
  have h := wp_dmaMixedBatch (countersEmb (U := Pipeline.UD sig nD τ)) (defs := defs₀ (F := F)) Variants.none (c : Thread nD τ) none () sentCredit (src := Memref.whole cc0_scratch3) (dst := Memref.whole main_v3_1)
    (sm := SemLoc.dma cc0_scratch9.sem) (hsrc := hs) (hdst := ht) (hsem := hm) (k := kk) (Q := Q) (u := 0)
    (q := fullShare) (fs := (ov : BufT F c cc0_scratch3)) (fd := g0) (Sd := Finset.univ) (via := ReadAs.same) (D := sent c ov om) (j := 0) (Finset.subset_univ _) (by decide) rfl (Nat.le_refl _)
    (by rw [show (Memref.whole cc0_scratch3).view.set = Finset.univ from View.set_whole _]
        exact sep_mono_left (Entails.of_eq (congrArg (pt c main_v3_1) (View.write_whole_univ _ _ _))))
  rw [show (Memref.whole cc0_scratch3).view.set = Finset.univ from View.set_whole _] at h
  exact h

/-- Starting the mask on its way out. -/
theorem send_mask {g0 : BufT F c main_v3_0} {kk : PUnit → BodyProg F PUnit} {hs ht hm} {Q : PUnit → sProp 𝕄} :
    iprop(pt c cc0_scratch2 om ∗ pt c main_v3_0 g0 ∗ outs c ov om 1 0) ⊢ iprop((outs c ov om 2 0 -∗ run c (kk ⟨⟩) Q)
      -∗ run c (.op (.enqueueDma (Memref.whole cc0_scratch2) (.here (Memref.whole main_v3_0)) (.dma cc0_scratch9.sem) hs ht hm) kk) Q) := by
  have h := wp_dmaMixedBatch (countersEmb (U := Pipeline.UD sig nD τ)) (defs := defs₀ (F := F)) Variants.none (c : Thread nD τ) none () sentCredit (src := Memref.whole cc0_scratch2) (dst := Memref.whole main_v3_0)
    (sm := SemLoc.dma cc0_scratch9.sem) (hsrc := hs) (hdst := ht) (hsem := hm) (k := kk) (Q := Q) (u := 0)
    (q := fullShare) (fs := (om : BufT F c cc0_scratch2)) (fd := g0) (Sd := Finset.univ) (via := ReadAs.same) (D := sent c ov om) (j := 1) (Finset.subset_univ _) (by decide) rfl (Nat.zero_le _)
    (by rw [show (Memref.whole cc0_scratch2).view.set = Finset.univ from View.set_whole _]
        exact sep_mono_left (Entails.of_eq (congrArg (pt c main_v3_0) (View.write_whole_univ _ _ _))))
  rw [show (Memref.whole cc0_scratch2).view.set = Finset.univ from View.set_whole _] at h
  exact h

theorem sumTo_sent : sumTo sentCredit 2 = vCredit + mCredit := by
  rw [sumTo_succ sentCredit (show 1 < 2 by decide), sumTo_succ sentCredit (show 0 < 2 by decide)]
  exact congrArg (· + mCredit) (Nat.zero_add vCredit)

/-- The wait for `v`'s units. -/
theorem await_v {kk : PUnit → BodyProg F PUnit} {hs hd} {Q : PUnit → sProp 𝕄} :
    iprop(outs c ov om 2 0 ∗ waited c) ⊢ iprop((iprop(outs c ov om 2 vCredit ∗ waited c) -∗ run c (kk ⟨⟩) Q)
      -∗ run c (.op (.waitDma2 cc0_scratch9.sem (Memref.whole cc0_scratch3) (Memref.whole main_v3_1) hs hd) kk) Q) := by
  iintro ⟨HF, ⟨%W, HO⟩⟩ Hk
  iapply (wp_waitMixedBatch (countersEmb (U := Pipeline.UD sig nD τ)) Variants.none (c : Thread nD τ) none () (A := sentCredit) (D := sent c ov om) (J := vCredit) rfl (j := 2) (u := 0)
    (by rw [sumTo_sent]; omega) (W := W)) $$ [HF HO]
  · isplitl [HF]; · iexact HF
    iexact HO
  iintro ⟨HD, HO⟩
  iapply Hk
  isplitl [HD]; · rw [Nat.zero_add]; iexact HD
  iexists _; iexact HO

/-- The wait for the mask's units, which ends both. -/
theorem await_mask {kk : PUnit → BodyProg F PUnit} {hs hd} {Q : PUnit → sProp 𝕄} :
    iprop(outs c ov om 2 vCredit ∗ waited c) ⊢ iprop((iprop((sent c ov om 0 ∗ sent c ov om 1) ∗ idle c cc0_scratch9.sem ∗ waited c) -∗ run c (kk ⟨⟩) Q)
      -∗ run c (.op (.waitDma2 cc0_scratch9.sem (Memref.whole cc0_scratch2) (Memref.whole main_v3_0) hs hd) kk) Q) := by
  iintro ⟨HF, ⟨%W, HO⟩⟩ Hk
  iapply (wp_waitMixedBatchAll (countersEmb (U := Pipeline.UD sig nD τ)) Variants.none (c : Thread nD τ) none () (A := sentCredit) (D := sent c ov om) (J := mCredit) rfl sentCredit_pos (u := vCredit)
    sumTo_sent.symm (W := W)) $$ [HF HO]
  · isplitl [HF]; · iexact HF
    iexact HO
  iintro ⟨HD, Hs, HO⟩
  iapply Hk
  isplitl [HD]; · rw [← BI.bigSep_univ_two]; iexact HD
  isplitl [Hs]; · iexact Hs
  iexists _; iexact HO

end Cert.Kernel.Trim
end
-- ==== Proof.Phases.lean ====
module
public import proofs.«01_k».proof.Proof.Body

/-! # The phases

The body from its first transfer to its last wait, phase by phase, last phase first. -/

@[expose] public section
set_option maxRecDepth 16384
noncomputable section
namespace Cert.Kernel.Trim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

attribute [local instance] Cert.Kernel.Gen.facts

local notation "𝕄" => MT nD τ sig Unit (Elt F) ℕ (Pipeline.UD sig nD τ) ℕ

variable {c : Dev nD} {f G g : Vec F S2048x4096 .f32} {z b : Vec F S2048x512 .f32} {k : ℕ} {v w : BitVec 32} {hw : k0_chk1 v}
  {ov : Vec F S64x4096 .f32} {om : Vec F S16x4096 .i32}

/-- A program that has ended. -/
theorem ret_run {Q : PUnit → sProp 𝕄} : iprop(|={Set.univ}=> Q ⟨⟩) ⊢ run c (.ret ⟨⟩) Q := Entails.of_eq rfl

/-- The last three waits hand back the boundary block and the two small outputs. -/
theorem finish_run {Q : PUnit → sProp 𝕄} :
    iprop(bndOut c k b G ∗ outs c ov om 2 0 ∗ waited c) ⊢ iprop((iprop((oAt c (cols k) G ∗ pt c cc0_scratch5 b) ∗ (sent c ov om 0 ∗ sent c ov om 1)
      ∗ idle c cc0_scratch10.sem ∗ idle c cc0_scratch9.sem ∗ waited c) -∗ |={Set.univ}=> Q ⟨⟩) -∗ run c (finish v hw) Q) := by
  iintro ⟨HB, HO, HW⟩ Hk
  unfold finish
  iapply (await (sm := cc0_scratch10.sem) (N := blkCredit) (D := iprop(oAt c (cols k) G ∗ pt c cc0_scratch5 b)) rfl) $$ [HB HW]
  · isplitl [HB]; · iexact HB
    iexact HW
  iintro ⟨HB, H10, HW⟩
  iapply (await_v (c := c) (ov := ov) (om := om)) $$ [HO HW]
  · isplitl [HO]; · iexact HO
    iexact HW
  iintro ⟨HO, HW⟩
  iapply (await_mask (c := c) (ov := ov) (om := om)) $$ [HO HW]
  · isplitl [HO]; · iexact HO
    iexact HW
  iintro ⟨HS, H9, HW⟩
  iapply ret_run
  iapply Hk
  isplitl [HB]; · iexact HB
  isplitl [HS]; · iexact HS
  isplitl [H10]; · iexact H10
  isplitl [H9]; · iexact H9
  iexact HW

/-- The eight blocks' waits. -/
theorem drainAll_run (hk : k < 8) (e : w = BitVec.ofNat 32 k) {Q : PUnit → sProp 𝕄} :
    toDrain c f z G k 0 ⊢ iprop((toDrain c f z G k 8 -∗ run c (finish v hw) Q) -∗ run c (drainAll v hw w) Q) := by
  subst e
  have step (d : ℕ) (hd : d < 8) (h : ∀ a, (![0, 512 * d] : Fin 2 → Nat) a + S2048x512.size a ≤ S2048x4096.size a) (rest : BodyProg F PUnit) :
      toDrain c f z G k d ⊢ iprop((toDrain c f z G k (d + 1) -∗ run c rest Q) -∗ run c (drain (BitVec.ofNat 32 k) (BitVec.ofNat 32 d) d h rest) Q) := by
    iintro H Hk
    iapply (drain_step (c := c) (f := f) (z := z) (G := G) hk hd h (after_iff hk hd) (before_iff hk hd))
    isplitl [H]; · iexact H
    iexact Hk
  iintro H Hk
  unfold drainAll
  iapply (step 0 (by decide) _ _) $$ H; iintro H
  iapply (step 1 (by decide) _ _) $$ H; iintro H
  iapply (step 2 (by decide) _ _) $$ H; iintro H
  iapply (step 3 (by decide) _ _) $$ H; iintro H
  iapply (step 4 (by decide) _ _) $$ H; iintro H
  iapply (step 5 (by decide) _ _) $$ H; iintro H
  iapply (step 6 (by decide) _ _) $$ H; iintro H
  iapply (step 7 (by decide) _ _) $$ H; iintro H
  iapply Hk
  iexact H

/-- The eight blocks' starts. -/
theorem issueAll_run (hk : k < 8) (e : w = BitVec.ofNat 32 k) {v9 : BitVec 32}
    (hG : ∀ d < k, ∀ i ∈ cols d, f i = G i) (hz : ∀ y, z y = zero32) (hZ : ∀ d, k < d → ∀ i ∈ cols d, G i = zero32) {Q : PUnit → sProp 𝕄} :
    toIssue c f z g G k 0 ⊢ iprop((toIssue c f z g G k 8 -∗ run c (middle v hw v9 w) Q) -∗ run c (issueAll v hw v9 w) Q) := by
  subst e
  have step (d : ℕ) (hd : d < 8) (h : ∀ a, (![0, 512 * d] : Fin 2 → Nat) a + S2048x512.size a ≤ S2048x4096.size a) (rest : BodyProg F PUnit) :
      toIssue c f z g G k d ⊢ iprop((toIssue c f z g G k (d + 1) -∗ run c rest Q)
        -∗ run c (issue (BitVec.ofNat 32 k) (BitVec.ofNat 32 d) (BitVec.ofNat 32 d) d h rest) Q) := by
    iintro H Hk
    iapply (issue_step (c := c) (f := f) (z := z) (g := g) (G := G) hk hd h (after_iff hk hd) (before_iff hk hd) hG hz hZ)
    isplitl [H]; · iexact H
    iexact Hk
  iintro H Hk
  unfold issueAll
  iapply (step 0 (by decide) _ _) $$ H; iintro H
  iapply (step 1 (by decide) _ _) $$ H; iintro H
  iapply (step 2 (by decide) _ _) $$ H; iintro H
  iapply (step 3 (by decide) _ _) $$ H; iintro H
  iapply (step 4 (by decide) _ _) $$ H; iintro H
  iapply (step 5 (by decide) _ _) $$ H; iintro H
  iapply (step 6 (by decide) _ _) $$ H; iintro H
  iapply (step 7 (by decide) _ _) $$ H; iintro H
  iapply Hk
  iexact H

/-- The trimmed mask. -/
def outM (fm : Vec F S16x4096 .i32) (v9 : BitVec 32) : Vec F S16x4096 .i32 := k0_pay7 (k0_pay5 (F := F) fm) (k0_pay6 v9)
/-- The trimmed `v`. -/
def outV (fv : Vec F S64x4096 .f32) (v9 : BitVec 32) : Vec F S64x4096 .f32 := k0_pay4 (F := F) v9 fv

set_option maxHeartbeats 800000 in
/-- From the wait for `v` to the end. -/
theorem middle_run (hK : Kept (Scalar.maxsi v 1#32)) {fm : Vec F S16x4096 .i32} {fv : Vec F S64x4096 .f32} {s2 : BufT F c cc0_scratch2} {s3 : BufT F c cc0_scratch3} {s5 : BufT F c cc0_scratch5}
    {g0 : BufT F c main_v3_0} {g1 : BufT F c main_v3_1} {Q : PUnit → sProp 𝕄} :
    iprop(vIn c fv ∗ pt c cc0_scratch3 s3 ∗ pt c cc0_scratch0 fm ∗ pt c cc0_scratch2 s2 ∗ pt c main_v3_1 g1 ∗ pt c main_v3_0 g0 ∗ idle c cc0_scratch9.sem
      ∗ bndIn c (blk (Scalar.maxsi v 1#32)) (bndRead f v hw) f ∗ pt c cc0_scratch5 s5 ∗ oAt c (cols (blk (Scalar.maxsi v 1#32))) g ∗ waited c
      ∗ toIssue c f z g (kept (Scalar.maxsi v 1#32).toNat f) (blk (Scalar.maxsi v 1#32)) 8)
    ⊢ iprop((iprop((pt c cc0_scratch1 fv ∗ pt c main_v1 fv) ∗ idle c cc0_scratch8.sem ∗ pt c cc0_scratch0 fm
        ∗ (pt c cc0_scratch4 (bndRead f v hw) ∗ xAt c (cols (blk (Scalar.maxsi v 1#32))) fullShare f)
        ∗ (oAt c (cols (blk (Scalar.maxsi v 1#32))) (kept (Scalar.maxsi v 1#32).toNat f) ∗ pt c cc0_scratch5 (k0_pay8 (Scalar.maxsi v 1#32) (jword (Scalar.maxsi v 1#32)) (bndRead f v hw)))
        ∗ (sent c (outV fv (Scalar.maxsi v 1#32)) (outM fm (Scalar.maxsi v 1#32)) 0 ∗ sent c (outV fv (Scalar.maxsi v 1#32)) (outM fm (Scalar.maxsi v 1#32)) 1)
        ∗ idle c cc0_scratch10.sem ∗ idle c cc0_scratch9.sem
        ∗ bigSep (Finset.Ico 0 (blk (Scalar.maxsi v 1#32))) (fun d => piece c f z (kept (Scalar.maxsi v 1#32).toNat f) (blk (Scalar.maxsi v 1#32)) d)
        ∗ bigSep (Finset.Ico (blk (Scalar.maxsi v 1#32) + 1) 8) (fun d => piece c f z (kept (Scalar.maxsi v 1#32).toNat f) (blk (Scalar.maxsi v 1#32)) d)
        ∗ idle c cc0_scratch11.sem ∗ idle c cc0_scratch12.sem ∗ waited c) -∗ |={Set.univ}=> Q ⟨⟩)
      -∗ run c (middle v hw (Scalar.maxsi v 1#32) (jword (Scalar.maxsi v 1#32))) Q) := by
  have hk := hK.blk_lt
  have hoff := off_eq hK
  have hread := fun y => read_off (inb := k0_off1_inb v hw) hoff (inb_blk hk) f y
  have hout := pay8_eq hK (inb_blk hk) f (bndRead f v hw) hread
  have hjw := jword_eq hK
  generalize Scalar.maxsi v 1#32 = v9 at *
  iintro ⟨HV, H3, H0, H2, Hg1, Hg0, H9, HB, H5, Hok, HW, HI⟩ Hk
  unfold middle
  iapply (await (sm := cc0_scratch8.sem) (N := vCredit) (D := iprop(pt c cc0_scratch1 (fv : BufT F c cc0_scratch1) ∗ pt c main_v1 (fv : BufT F c main_v1))) rfl) $$ [HV HW]
  · isplitl [HV]; · iexact HV
    iexact HW
  iintro ⟨⟨H1, Hv1⟩, H8, HW⟩
  iapply (load_all (c := c) (i := cc0_scratch1.idx) (hκ := cc0_scratch1.names) zero_off2) $$ H1; iintro H1
  iapply (load_all (c := c) (i := cc0_scratch3.idx) (hκ := cc0_scratch3.names) zero_off2) $$ H3; iintro H3
  iapply (store_all (c := c) (i := cc0_scratch3.idx) (hκ := cc0_scratch3.names) zero_off2) $$ H3; iintro H3
  iapply (load_all (c := c) (i := cc0_scratch0.idx) (hκ := cc0_scratch0.names) zero_off2) $$ H0; iintro H0
  iapply (load_all (c := c) (i := cc0_scratch2.idx) (hκ := cc0_scratch2.names) zero_off2) $$ H2; iintro H2
  iapply (store_all (c := c) (i := cc0_scratch2.idx) (hκ := cc0_scratch2.names) zero_off2) $$ H2; iintro H2
  imod (ready (c := c) (ov := outV fv v9) (om := outM fm v9)) $$ H9 with H9
  iapply (send_v (c := c) (ov := outV fv v9) (om := outM fm v9)) $$ [H3 Hg1 H9]
  · isplitl [H3]; · iexact H3
    isplitl [Hg1]; · iexact Hg1
    iexact H9
  iintro H9
  iapply (send_mask (c := c) (ov := outV fv v9) (om := outM fm v9)) $$ [H2 Hg0 H9]
  · isplitl [H2]; · iexact H2
    isplitl [Hg0]; · iexact Hg0
    iexact H9
  iintro H9
  iapply (await (sm := cc0_scratch10.sem) (N := blkCredit) (D := iprop(pt c cc0_scratch4 (bndRead f v hw : BufT F c cc0_scratch4) ∗ xAt c (cols (blk v9)) fullShare f)) rfl) $$ [HB HW]
  · isplitl [HB]; · iexact HB
    iexact HW
  iintro ⟨⟨H4, Hx⟩, H10, HW⟩
  iapply (load_all (c := c) (i := cc0_scratch4.idx) (hκ := cc0_scratch4.names) zero_off2) $$ H4; iintro H4
  iapply (load_all (c := c) (i := cc0_scratch5.idx) (hκ := cc0_scratch5.names) zero_off2) $$ H5; iintro H5
  iapply (store_all (c := c) (i := cc0_scratch5.idx) (hκ := cc0_scratch5.names) zero_off2) $$ H5; iintro H5
  iapply (start_out (G := kept v9.toNat f) (g := g) hoff (inb_blk hk) (b := k0_pay8 v9 (jword v9) (bndRead f v hw)) hout) $$ [H5 Hok H10]
  · isplitl [H5]; · iexact H5
    isplitl [Hok]; · iexact Hok
    iexact H10
  iintro HB
  icases HW with ⟨%W, HW⟩
  ihave HD := (turn (c := c) (f := f) (z := z) (g := g) (G := kept v9.toNat f) hk (W := W)) $$ [HI HW]
  · isplitl [HI]; · iexact HI
    iexact HW
  iapply (drainAll_run hk hjw) $$ HD
  iintro HD
  imod (leave (c := c) (f := f) (z := z) (G := kept v9.toNat f) hk) $$ HD with ⟨HA, HZ, H11, H12, HW⟩
  iapply (finish_run (c := c) (k := blk v9) (b := k0_pay8 v9 (jword v9) (bndRead f v hw)) (G := kept v9.toNat f) (ov := outV fv v9) (om := outM fm v9)) $$ [HB H9 HW]
  · isplitl [HB]; · iexact HB
    isplitl [H9]; · iexact H9
    iexact HW
  iintro ⟨HB, HS, H10, H9, HW⟩
  iapply Hk
  isplitl [H1 Hv1]
  · isplitl [H1]; · iexact H1
    iexact Hv1
  isplitl [H8]; · iexact H8
  isplitl [H0]; · iexact H0
  isplitl [H4 Hx]
  · isplitl [H4]; · iexact H4
    iexact Hx
  isplitl [HB]; · iexact HB
  isplitl [HS]; · iexact HS
  isplitl [H10]; · iexact H10
  isplitl [H9]; · iexact H9
  isplitl [HA]; · iexact HA
  isplitl [HZ]; · iexact HZ
  isplitl [H11]; · iexact H11
  isplitl [H12]; · iexact H12
  iexact HW

end Cert.Kernel.Trim
end
-- ==== Proof.Trimmed.lean ====
module
public import proofs.«01_k».proof.Proof.Phases

/-! # The whole body

The body run from the inputs and anything in the outputs and scratch buffers: the outputs end at the
trimmed arrays and everything else comes back. -/

@[expose] public section
set_option maxRecDepth 16384
noncomputable section
namespace Cert.Kernel.Trim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

attribute [local instance] Cert.Kernel.Gen.facts

local notation "𝕄" => MT nD τ sig Unit (Elt F) ℕ (Pipeline.UD sig nD τ) ℕ

variable {c : Dev nD}

/-- The trimmed input. -/
def outX (fm : Vec F S16x4096 .i32) (f : Vec F S2048x4096 .f32) : Vec F S2048x4096 .f32 := kept (keep (F := F) fm).toNat f

/-- The seven scratch buffers, holding anything. -/
def scratch (c : Dev nD) : sProp 𝕄 :=
  iprop((∃ s, pt (F := F) c cc0_scratch0 s) ∗ (∃ s, pt (F := F) c cc0_scratch1 s) ∗ (∃ s, pt (F := F) c cc0_scratch2 s) ∗ (∃ s, pt (F := F) c cc0_scratch3 s)
    ∗ (∃ s, pt (F := F) c cc0_scratch4 s) ∗ (∃ s, pt (F := F) c cc0_scratch5 s) ∗ ∃ s, pt (F := F) c cc0_scratch6 s)

/-- The six cells, idle. -/
def cells (c : Dev nD) : sProp 𝕄 :=
  iprop(idle (F := F) c cc0_scratch7.sem ∗ idle (F := F) c cc0_scratch8.sem ∗ idle (F := F) c cc0_scratch9.sem
    ∗ idle (F := F) c cc0_scratch10.sem ∗ idle (F := F) c cc0_scratch11.sem ∗ idle (F := F) c cc0_scratch12.sem)

/-- The inputs and the outputs. -/
def arrays (c : Dev nD) (fx : Vec F S2048x4096 .f32) (fv : Vec F S64x4096 .f32) (fm : Vec F S16x4096 .i32)
    (gm : Vec F S16x4096 .i32) (gv : Vec F S64x4096 .f32) (gx : Vec F S2048x4096 .f32) : sProp 𝕄 :=
  iprop((pt c main_v0 fx ∗ pt c main_v1 fv ∗ pt c main_v2 fm) ∗ pt c main_v3_0 gm ∗ pt c main_v3_1 gv ∗ pt c main_v3_2 gx)

set_option maxHeartbeats 800000 in
/-- The body trims its inputs into its outputs. -/
theorem trim_run {fx : Vec F S2048x4096 .f32} {fv : Vec F S64x4096 .f32} {fm : Vec F S16x4096 .i32}
    {gm : Vec F S16x4096 .i32} {gv : Vec F S64x4096 .f32} {gx : Vec F S2048x4096 .f32} :
    iprop(arrays c fx fv fm gm gv gx ∗ scratch c ∗ cells c ∗ waited c)
      ⊢ run c trim fun _ => iprop(arrays c fx fv fm (outM fm (keep (F := F) fm)) (outV fv (keep (F := F) fm)) (outX fm fx) ∗ scratch c ∗ cells c ∗ waited c) := by
  have hK := kept_keep (F := F) fm
  have hk := hK.blk_lt
  have hoff := off_eq hK
  unfold arrays scratch cells outX
  iintro ⟨⟨⟨Hx, Hv, Hm⟩, Hgm, Hgv, Hgx⟩, ⟨⟨%s0, H0⟩, ⟨%s1, H1⟩, ⟨%s2, H2⟩, ⟨%s3, H3⟩, ⟨%s4, H4⟩, ⟨%s5, H5⟩, ⟨%s6, H6⟩⟩, ⟨H7, H8, H9, H10, H11, H12⟩, HW⟩
  unfold trim
  iapply (start_mask (c := c) (fm := fm)) $$ [Hm H0 H7]
  · isplitl [Hm]; · iexact Hm
    isplitl [H0]; · iexact H0
    iexact H7
  iintro HM
  iapply (start_v (c := c) (fv := fv)) $$ [Hv H1 H8]
  · isplitl [Hv]; · iexact Hv
    isplitl [H1]; · iexact H1
    iexact H8
  iintro HV
  iapply (await (sm := cc0_scratch7.sem) (N := mCredit) (D := iprop(pt c cc0_scratch0 (fm : BufT F c cc0_scratch0) ∗ pt c main_v2 (fm : BufT F c main_v2))) rfl) $$ [HM HW]
  · isplitl [HM]; · iexact HM
    iexact HW
  iintro ⟨⟨H0, Hm⟩, H7, HW⟩
  iapply (load_all (c := c) (i := cc0_scratch0.idx) (hκ := cc0_scratch0.names) zero_off2) $$ H0; iintro H0
  iapply (wp_assume Variants.none (c : Thread nD τ) none Set.univ (chk_of_kept hK))
  ihave Hx' := (Entails.of_eq (x_split (c := c) (f := fx) hk)) $$ Hx
  icases Hx' with ⟨Hx1, Hx2, Hx3⟩
  iapply (start_bnd (c := c) (f := fx) (k := blk (keep (F := F) fm)) hoff) $$ [Hx2 H4 H10]
  · isplitl [Hx2]; · iexact Hx2
    isplitl [H4]; · iexact H4
    iexact H10
  iintro HB
  iapply (load_all (c := c) (i := cc0_scratch6.idx) (hκ := cc0_scratch6.names) zero_off2) $$ H6; iintro H6
  iapply (store_all (c := c) (i := cc0_scratch6.idx) (hκ := cc0_scratch6.names) zero_off2) $$ H6; iintro H6
  ihave HP := (take_apart (c := c) (f := fx) (G := gx) (z := k0_pay2 (F := F)) hk) $$ [Hgx Hx1 Hx3 H6]
  · isplitl [Hgx]; · iexact Hgx
    isplitl [Hx1 Hx3]
    · isplitl [Hx1]; · iexact Hx1
      iexact Hx3
    iexact H6
  icases HP with ⟨HP, Ho2, Hx3, Hz⟩
  imod (enter (c := c) (f := fx) (z := k0_pay2 (F := F)) (g := gx) (G := kept (keep (F := F) fm).toNat fx) (k := blk (keep (F := F) fm))) $$ [HP H11 H12] with HI
  · isplitl [HP]; · iexact HP
    isplitl [H11]; · iexact H11
    iexact H12
  iapply (issueAll_run (c := c) (f := fx) (z := k0_pay2 (F := F)) (g := gx) (G := kept (keep (F := F) fm).toNat fx) (k := blk (keep (F := F) fm)) hk (jword_eq hK)
    (fun d hd i hi => (kept_before hK hd fx hi).symm) pay2_eq (fun d hd i hi => kept_after hK hd fx hi)) $$ HI
  iintro HI
  iapply (middle_run (c := c) (f := fx) (g := gx) (z := k0_pay2 (F := F)) (v := count fm) hK (fm := fm) (fv := fv) (s2 := s2) (s3 := s3) (s5 := s5) (g0 := gm) (g1 := gv)) $$ [HV H3 H0 H2 Hgv Hgm H9 HB H5 Ho2 HW HI]
  · isplitl [HV]; · iexact HV
    isplitl [H3]; · iexact H3
    isplitl [H0]; · iexact H0
    isplitl [H2]; · iexact H2
    isplitl [Hgv]; · iexact Hgv
    isplitl [Hgm]; · iexact Hgm
    isplitl [H9]; · iexact H9
    isplitl [HB]; · iexact HB
    isplitl [H5]; · iexact H5
    isplitl [Ho2]; · iexact Ho2
    isplitl [HW]; · iexact HW
    iexact HI
  unfold sent
  iintro ⟨⟨H1, Hv⟩, H8, H0, ⟨H4, Hx2⟩, ⟨Ho2, H5⟩, ⟨⟨Hgv, H3⟩, ⟨Hgm, H2⟩⟩, H10, H9, HA, HZ, H11, H12, HW⟩
  ihave HX := (put_together (c := c) (f := fx) (G := kept (keep (F := F) fm).toNat fx) (z := k0_pay2 (F := F)) hk) $$ [HA HZ Ho2 Hx2 Hx3 Hz]
  · isplitl [HA]; · iexact HA
    isplitl [HZ]; · iexact HZ
    unfold aside
    isplitl [Ho2]; · iexact Ho2
    isplitl [Hx2]; · iexact Hx2
    isplitl [Hx3]; · iexact Hx3
    iexact Hz
  icases HX with ⟨Hgx, Hx, H6⟩
  imodintro
  isplitl [Hx Hv Hm Hgm Hgv Hgx]
  · isplitl [Hx Hv Hm]
    · isplitl [Hx]; · iexact Hx
      isplitl [Hv]; · iexact Hv
      iexact Hm
    isplitl [Hgm]; · iexact Hgm
    isplitl [Hgv]; · iexact Hgv
    iexact Hgx
  isplitl [H0 H1 H2 H3 H4 H5 H6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  isplitl [H7 H8 H9 H10 H11 H12]
  · isplitl [H7]; · iexact H7
    isplitl [H8]; · iexact H8
    isplitl [H9]; · iexact H9
    isplitl [H10]; · iexact H10
    isplitl [H11]; · iexact H11
    iexact H12
  iexact HW

end Cert.Kernel.Trim
end
-- ==== Proof.Launched.lean ====
module
public import proofs.«01_k».proof.Proof.Printed
public import proofs.«01_k».proof.Proof.Trimmed
public import proofs.«01_k».proof.Proof.Gen.Kernel.Frame
public import Idealize.ShloMosaic.Lib.Pipeline.FrameSuffixV

/-! # The run of the program

The body's run set under the launch: the whole program ends with its arguments as launched, its
results at the trimmed arrays, and every semaphore at zero. -/

@[expose] public section
set_option maxRecDepth 16384
noncomputable section
namespace Cert.Kernel.Trim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

attribute [local instance] Cert.Kernel.Gen.facts

local notation "𝕄" => MT nD τ sig Unit (Elt F) ℕ (Pipeline.UD sig nD τ) ℕ

variable (m : (ℓ : Loc nD τ sig) → Buf (Elt F) ℓ) (ρ : Dev nD → PrngReg)

/-- The arrays the body only reads. -/
def H0 : Finset (Ref sig .tc) := {main_v0, main_v1, main_v2}
/-- The arrays the body writes. -/
def R0 : Finset (Ref sig .tc) := {main_v3_0, main_v3_1, main_v3_2}
/-- The body's own cells. -/
abbrev osem0 : Fin 6 → SemLoc sig := fun j => (![SemLoc.dma cc0_scratch7.sem, SemLoc.dma cc0_scratch8.sem, SemLoc.dma cc0_scratch9.sem,
  SemLoc.dma cc0_scratch10.sem, SemLoc.dma cc0_scratch11.sem, SemLoc.dma cc0_scratch12.sem] : Fin 6 → SemLoc sig) j
theorem ownSemFacts0 : Pipeline.OwnSemFacts cfg0.spec osem0 := by decide
theorem H0_sub : H0 ⊆ Pipeline.restRefs sig cfg0.spec := by decide
theorem R0_sub : R0 ⊆ Pipeline.restRefs sig cfg0.spec \ H0 := by decide

/-- The trimmed arrays, from what the body finds. -/
abbrev endM (c : Dev nD) : Vec F S16x4096 .i32 := outM (V m c main_v2) (keep (F := F) (V m c main_v2))
abbrev endV (c : Dev nD) : Vec F S64x4096 .f32 := outV (V m c main_v1) (keep (F := F) (V m c main_v2))
abbrev endX (c : Dev nD) : Vec F S2048x4096 .f32 := outX (V m c main_v2) (V m c main_v0)

/-- What every buffer holds after the body. -/
def ends (c : Dev nD) : (b : Ref sig .tc) → Buf (Elt F) ((c : Thread nD τ).loc b) :=
  Function.update (Function.update (Function.update (V m c) main_v3_0 (endM m c)) main_v3_1 (endV m c)) main_v3_2 (endX m c)

theorem ends_mask (c : Dev nD) : ends m c main_v3_0 = endM m c := by
  unfold ends
  rw [Function.update_of_ne (by decide), Function.update_of_ne (by decide), Function.update_self]
theorem ends_v (c : Dev nD) : ends m c main_v3_1 = endV m c := by
  unfold ends
  rw [Function.update_of_ne (by decide), Function.update_self]
theorem ends_x (c : Dev nD) : ends m c main_v3_2 = endX m c := by
  unfold ends
  rw [Function.update_self]

/-- The launch's invariant, the written arrays at `G`. -/
abbrev inv (G : (c : Dev nD) → (b : Ref sig .tc) → Buf (Elt F) ((c : Thread nD τ).loc b)) (c : Dev nD) : sProp 𝕄 :=
  Pipeline.ΦDRV osem0 cfg0.spec H0 R0 (V m) G c

/-- The invariant is the body's resources. -/
theorem inv_eq (G : (c : Dev nD) → (b : Ref sig .tc) → Buf (Elt F) ((c : Thread nD τ).loc b)) (c : Dev nD) : inv m G c
    = iprop(scratch (F := F) c ∗ cells (F := F) c ∗ (pt c main_v0 (V m c main_v0) ∗ pt c main_v1 (V m c main_v1) ∗ pt c main_v2 (V m c main_v2))
      ∗ pt c main_v3_0 (G c main_v3_0) ∗ pt c main_v3_1 (G c main_v3_1) ∗ pt c main_v3_2 (G c main_v3_2)) := by
  unfold inv Pipeline.ΦDRV
  rw [scopedRest0_eq, Pipeline.ownSems0_eq_of_list c osem0 [0, 1, 2, 3, 4, 5] (by decide) (by decide),
    BI.bigSep_eq_bigSepL_of_eq [main_v0, main_v1, main_v2] (by decide) (by decide),
    BI.bigSep_eq_bigSepL_of_eq [main_v3_0, main_v3_1, main_v3_2] (by decide) (by decide)]
  rfl

/-- The proof data: the invariant before and after the one point. -/
def dats (_ : Fin 1) (c : Dev nD) : Dat τ (Elt F) Unit ℕ (Pipeline.UD sig nD τ) ℕ cfg0 c where
  A w := V m c (Pipeline.arrRef cfg0.spec w)
  after w t := w.elim0
  Φ t := inv m (if t.val = 0 then V m else ends m) c
  q _ := fullShare
  owed _ := 0

theorem phi_start (c : Dev nD) (t : Fin (cfg0.N + 1)) (h : t.val = 0) : (dats m 0 c).Φ t = inv m (V m) c :=
  congrArg (fun G => inv m G c) (if_pos h)
theorem phi_end (c : Dev nD) (t : Fin (cfg0.N + 1)) (h : t.val ≠ 0) : (dats m 0 c).Φ t = inv m (ends m) c :=
  congrArg (fun G => inv m G c) (if_neg h)

/-- The body from the invariant before to the invariant after. -/
theorem sound_body (c : Dev nD) :
    iprop(inv m (V m) c ∗ (∃ W, owes (c : Thread nD τ) 0 W)) ⊢ wp frame (wpE (defs₀ (F := F)) Variants.none c none) Set.univ (trim (F := F))
      (fun _ => iprop(inv m (ends m) c ∗ ∃ W, owes (c : Thread nD τ) 0 W)) := by
  rw [inv_eq, inv_eq, ends_mask, ends_v, ends_x]
  refine (show _ ⊢ _ from ?_).trans ((trim_run (c := c) (fx := V m c main_v0) (fv := V m c main_v1) (fm := V m c main_v2)
    (gm := V m c main_v3_0) (gv := V m c main_v3_1) (gx := V m c main_v3_2)).trans (wp_mono _ _ _ fun _ => ?_))
  · unfold arrays
    iintro ⟨⟨HS, HC, HI, HO⟩, HW⟩
    isplitl [HI HO]
    · isplitl [HI]; · iexact HI
      iexact HO
    isplitl [HS]; · iexact HS
    isplitl [HC]; · iexact HC
    iexact HW
  · unfold arrays
    iintro ⟨⟨HI, HO⟩, HS, HC, HW⟩
    isplitr [HW]
    · isplitl [HS]; · iexact HS
      isplitl [HC]; · iexact HC
      isplitl [HI]; · iexact HI
      iexact HO
    iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row, bodyAt0_eq, show t = t0_0 from fin_N0 t, phi_start m c _ rfl, phi_end m c _ (Nat.succ_ne_zero _)]
  refine triple_restated (sound_body m c) rfl ?_ fun _ => ?_
  · unfold Dat.owesAt Pipeline.owesWithin
    iintro ⟨HI, ⟨%W, -, HW⟩, -⟩
    isplitl [HI]; · iexact HI
    iexists W; iexact HW
  · unfold Dat.owesAt Pipeline.owesWithin
    iintro ⟨HI, ⟨%W, HW⟩⟩
    isplitl [HI]; · iexact HI
    isplitl [HW]
    · iexists W; isplitr; · ipureintro; exact fun _ _ => Or.inl trivial
      iexact HW
    rw [show (Finset.univ : Finset (Fin cfg0.W)) = ∅ from rfl, bigSep_empty]
    iempintro

/-- The program around its one launch. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Every buffer at the end, as the last host operations leave it. -/
abbrev final (c : Dev nD) : Valuation τ sig (Elt F) :=
  StableHlo.after [hostOps1].flatten (Pipeline.withArrays cfg0.spec c (Pipeline.withR (V0 m c) R0 c (ends m c)) fun w => (dats m 0 c).arrAt w cfg0.N)

set_option backward.isDefEq.respectTransparency.types false in
/-- The run: every buffer that is not scoped ends as the last host operations leave it, every semaphore at zero. -/
theorem run_main : θ_run defs (onTc (τ := τ) (main (F := F))) (s₀ m ρ)
    (fun r => (∀ c : Dev nD, ∀ b ∈ Pipeline.restRefs sig cfg0.spec, r.2.mem ((c.tc : Thread nD τ).loc b) = final m c (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := ends m) (hmain := main_around m Variants.none) (hA := fun _ w => w.elim0)
    (hin := fun c => Entails.of_eq (phi_start m c _ rfl).symm) (hout := fun c => Entails.of_eq (phi_end m c _ (by decide)))
    (Q' := fun r => (∀ c : Dev nD, ∀ b ∈ Pipeline.restRefs sig cfg0.spec, r.2.mem ((c.tc : Thread nD τ).loc b) = final m c (Proc.devRef .tc b)) ∧ r.2.sem = fun _ => 0)
    (hQ' := fun r h => ⟨fun c => (h.1 c).2, h.2⟩)

/-- An array no host operation and no launch writes ends as launched. -/
theorem final_kept (c : Dev nD) (b : Ref sig .tc) (h0 : b ≠ main_v0 ∧ b ≠ main_v1 ∧ b ≠ main_v2) (h1 : b ≠ main_v4 ∧ b ≠ main_v5 ∧ b ≠ main_v6)
    (hR : b ∉ R0) : final m c (Proc.devRef .tc b) = m ((c : Thread nD τ).loc b) := by
  unfold final
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact ⟨StableHlo.devRef_ne_of_ne h1.1, StableHlo.devRef_ne_of_ne h1.2.1, StableHlo.devRef_ne_of_ne h1.2.2⟩)),
    Pipeline.withArrays_of_ne _ c _ _ b fun w => w.elim0, Pipeline.withR_of_not_mem _ _ _ _ b hR]
  exact StableHlo.after_of_forall_not_mem (b := Proc.devRef .tc b) _ _ (List.forall_iff_forall_mem.mp (by
      simp only [hostOps0, List.flatten_cons, List.flatten_nil, List.append_nil, List.Forall, StableHlo.reshape_writes, Finset.mem_singleton]
      exact ⟨StableHlo.devRef_ne_of_ne h0.1, StableHlo.devRef_ne_of_ne h0.2.1, StableHlo.devRef_ne_of_ne h0.2.2⟩))

/-- The arrays as the body finds them: the arguments reshaped. -/
theorem V_x (c : Dev nD) : V m c main_v0 = shapeCast S2048x4096 (m ((c : Thread nD τ).loc main_arg0) : Vec F S16x128x4096 .f32) shapeCasts_S16x128x4096_S2048x4096 := by
  unfold V V0
  simp only [hostOps0, List.flatten_cons, List.flatten_nil, List.append_nil]
  after_results
  rfl
theorem V_v (c : Dev nD) : V m c main_v1 = shapeCast S64x4096 (m ((c : Thread nD τ).loc main_arg1) : Vec F S16x4x4096 .f32) shapeCasts_S16x4x4096_S64x4096 := by
  unfold V V0
  simp only [hostOps0, List.flatten_cons, List.flatten_nil, List.append_nil]
  after_results
  rfl
theorem V_mask (c : Dev nD) : V m c main_v2 = shapeCast S16x4096 (m ((c : Thread nD τ).loc main_arg2) : Vec F S16x1x4096 .i32) shapeCasts_S16x1x4096_S16x4096 := by
  unfold V V0
  simp only [hostOps0, List.flatten_cons, List.flatten_nil, List.append_nil]
  after_results
  rfl

/-- What a written array holds when the last host operations start. -/
theorem mid_of (c : Dev nD) (b : Ref sig .tc) (hb : b ∈ R0) :
    Pipeline.withArrays cfg0.spec c (Pipeline.withR (V0 m c) R0 c (ends m c)) (fun w => (dats m 0 c).arrAt w cfg0.N) (Proc.devRef .tc b) = ends m c b := by
  rw [Pipeline.withArrays_of_ne _ c _ _ b fun w => w.elim0, Pipeline.withR_of_mem _ _ _ _ b hb]

theorem final_x (c : Dev nD) : final m c (Proc.devRef .tc main_v4) = shapeCast S16x128x4096 (endX m c) shapeCasts_S2048x4096_S16x128x4096 := by
  rw [← ends_x, ← mid_of m c main_v3_2 (by decide)]
  unfold final
  simp only [hostOps1, List.flatten_cons, List.flatten_nil, List.append_nil]
  after_results
  rfl
theorem final_v (c : Dev nD) : final m c (Proc.devRef .tc main_v5) = shapeCast S16x4x4096 (endV m c) shapeCasts_S64x4096_S16x4x4096 := by
  rw [← ends_v, ← mid_of m c main_v3_1 (by decide)]
  unfold final
  simp only [hostOps1, List.flatten_cons, List.flatten_nil, List.append_nil]
  after_results
  rfl
theorem final_mask (c : Dev nD) : final m c (Proc.devRef .tc main_v6) = shapeCast S16x1x4096 (endM m c) shapeCasts_S16x4096_S16x1x4096 := by
  rw [← ends_mask, ← mid_of m c main_v3_0 (by decide)]
  unfold final
  simp only [hostOps1, List.flatten_cons, List.flatten_nil, List.append_nil]
  after_results
  rfl

/-- The trimmed `x`, from the arguments. -/
def resX (x : Vec F S16x128x4096 .f32) (mask : Vec F S16x1x4096 .i32) : Vec F S16x128x4096 .f32 :=
  shapeCast S16x128x4096 (outX (shapeCast S16x4096 mask shapeCasts_S16x1x4096_S16x4096) (shapeCast S2048x4096 x shapeCasts_S16x128x4096_S2048x4096))
    shapeCasts_S2048x4096_S16x128x4096
/-- The trimmed `v`, from the arguments. -/
def resV (v : Vec F S16x4x4096 .f32) (mask : Vec F S16x1x4096 .i32) : Vec F S16x4x4096 .f32 :=
  shapeCast S16x4x4096 (outV (shapeCast S64x4096 v shapeCasts_S16x4x4096_S64x4096) (keep (F := F) (shapeCast S16x4096 mask shapeCasts_S16x1x4096_S16x4096)))
    shapeCasts_S64x4096_S16x4x4096
/-- The trimmed mask, from the argument. -/
def resM (mask : Vec F S16x1x4096 .i32) : Vec F S16x1x4096 .i32 :=
  shapeCast S16x1x4096 (outM (shapeCast S16x4096 mask shapeCasts_S16x1x4096_S16x4096) (keep (F := F) (shapeCast S16x4096 mask shapeCasts_S16x1x4096_S16x4096)))
    shapeCasts_S16x4096_S16x1x4096

/-- The run: the arguments as launched, the results trimmed, every semaphore at zero. -/
theorem run_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v4) = resX (m ((c.tc : Thread nD τ).loc main_arg0)) (m ((c.tc : Thread nD τ).loc main_arg2))
      ∧ r.2.mem ((c.tc : Thread nD τ).loc main_v5) = resV (m ((c.tc : Thread nD τ).loc main_arg1)) (m ((c.tc : Thread nD τ).loc main_arg2))
      ∧ r.2.mem ((c.tc : Thread nD τ).loc main_v6) = resM (m ((c.tc : Thread nD τ).loc main_arg2)))
      ∧ r.2.sem = fun _ => 0) := by
  refine (θ_run defs _ _).mono (fun r h => ⟨fun c => ?_, h.2⟩) (run_main m ρ)
  have at_ := fun (b : Ref sig .tc) (hb : b ∈ Pipeline.restRefs sig cfg0.spec) => h.1 c b hb
  refine ⟨(at_ main_arg0 (by decide)).trans (final_kept m c _ (by decide) (by decide) (by decide)),
    (at_ main_arg1 (by decide)).trans (final_kept m c _ (by decide) (by decide) (by decide)),
    (at_ main_arg2 (by decide)).trans (final_kept m c _ (by decide) (by decide) (by decide)),
    (at_ main_v4 (by decide)).trans ((final_x m c).trans ?_),
    (at_ main_v5 (by decide)).trans ((final_v m c).trans ?_),
    (at_ main_v6 (by decide)).trans ((final_mask m c).trans ?_)⟩
  · unfold resX endX; rw [V_x, V_mask]
  · unfold resV endV; rw [V_v, V_mask]
  · unfold resM endM; rw [V_mask]

end Cert.Kernel.Trim
end
-- ==== Proof.Columns.lean ====
module
public import proofs.«01_k».proof.Proof.Launched

/-! # The kernel's results, element by element

The arrays the kernel leaves are reshapes of arrays with the same columns; each is read here at an index of
its printed shape. -/

@[expose] public section
set_option maxRecDepth 16384
noncomputable section
namespace Cert.Kernel.Trim

open Cert.Kernel Cert.Kernel.Gen
open Idealize.ShloMosaic
open Idealize.ShloMosaic.Pipeline

variable {F : FTy → Type} [FloatOps F]

/-- Joining the two leading axes keeps the column. -/
theorem col_reshape {a b n : ℕ} (h : (⟨2, ![n, 4096]⟩ : Shape).ShapeCasts ⟨3, ![a, b, 4096]⟩) (i : (⟨3, ![a, b, 4096]⟩ : Shape).Idx) :
    ((Shape.reshapeEquiv h i : (⟨2, ![n, 4096]⟩ : Shape).Idx) 1).val = (i 2).val := by
  have e := Shape.rowMajor_reshapeEquiv h i
  have e1 := rowMajor_val2 (Shape.reshapeEquiv h i : (⟨2, ![n, 4096]⟩ : Shape).Idx) 4096 rfl
  have e2 := rowMajor_val3 i (b * 4096) 4096 rfl rfl
  have h1 : ((Shape.reshapeEquiv h i : (⟨2, ![n, 4096]⟩ : Shape).Idx) 1).val < 4096 := ((Shape.reshapeEquiv h i : (⟨2, ![n, 4096]⟩ : Shape).Idx) 1).isLt
  have h2 : (i 2).val < 4096 := (i 2).isLt
  rw [← Nat.mul_assoc] at e2
  rw [e1] at e
  rw [e2] at e
  omega

/-- Reshaping there and back changes nothing. -/
theorem cast_back {s t : Shape} {α : Type} (x : s.Idx → α) (h : s.ShapeCasts t) (h' : t.ShapeCasts s) (i : s.Idx) :
    shapeCast t x h (Shape.reshapeEquiv h' i) = x i := by
  unfold shapeCast
  rw [Shape.reshapeEquiv_reshapeEquiv, Shape.reshapeEquiv_self]

/-- The mask's word at a row and a column. -/
theorem mask_row (mask : Vec F S16x1x4096 .i32) (r : Fin 16) (k : Fin 4096) :
    shapeCast S16x4096 mask shapeCasts_S16x1x4096_S16x4096 (ix2 r k) = mask (ix3 r 0 k) :=
  congrArg mask (Shape.reshapeEquiv_eq_of_vals _ _ _ _ _ (rowMajor_val3 _ 4096 4096 rfl rfl) (rowMajor_val2 _ 4096 rfl) (by simp [ix2, ix3]))

/-- The number of columns kept, from the mask as the program is given it. -/
def width (mask : Vec F S16x1x4096 .i32) : BitVec 32 := Scalar.maxsi (topWord fun r k => mask (ix3 r 0 k)) 1#32

theorem keep_eq (mask : Vec F S16x1x4096 .i32) : keep (F := F) (shapeCast S16x4096 mask shapeCasts_S16x1x4096_S16x4096) = width mask := by
  unfold keep width
  rw [count_eq]
  exact congrArg (fun p => Scalar.maxsi (topWord p) 1#32) (funext fun r => funext fun k => mask_row mask r k)

theorem kept_width (mask : Vec F S16x1x4096 .i32) : Kept (width mask) := keep_eq mask ▸ kept_keep _

/-- The first result: `x` on the kept columns, zero on the others. -/
theorem resX_apply (x : Vec F S16x128x4096 .f32) (mask : Vec F S16x1x4096 .i32) (i : S16x128x4096.Idx) :
    resX x mask i = if (i 2).val < (width mask).toNat then x i else zero32 := by
  unfold resX outX
  rw [keep_eq]
  show kept _ _ (Shape.reshapeEquiv shapeCasts_S2048x4096_S16x128x4096 i) = _
  unfold kept
  rw [col_reshape, cast_back]

/-- The trimmed `v` at an element. -/
theorem outV_apply {w : BitVec 32} (hk : Kept w) (fv : Vec F S64x4096 .f32) (j : S64x4096.Idx) :
    outV fv w j = if (j 1).val < w.toNat then fv j else zero32 := by
  have hc := slt_eq_one_iff (a := (j 1).val) (j 1).isLt hk
  unfold outV k0_pay4
  simp only [shapeCast_self]
  show (if IntOp.cmpi .slt (BitVec.ofNat 32 (0 * 4096 + (j 1).val)) w = 1#1 then fv j else zero32) = _
  rw [Nat.zero_mul, Nat.zero_add]
  exact if_congr hc rfl rfl

/-- The second result: `v` on the kept columns, zero on the others. -/
theorem resV_apply (v : Vec F S16x4x4096 .f32) (mask : Vec F S16x1x4096 .i32) (i : S16x4x4096.Idx) :
    resV v mask i = if (i 2).val < (width mask).toNat then v i else zero32 := by
  unfold resV
  rw [keep_eq]
  show outV _ _ (Shape.reshapeEquiv shapeCasts_S64x4096_S16x4x4096 i) = _
  rw [outV_apply (kept_width mask), col_reshape, cast_back]

/-- The trimmed mask at an element. -/
theorem outM_apply {w : BitVec 32} (hk : Kept w) (fm : Vec F S16x4096 .i32) (j : S16x4096.Idx) :
    outM (F := F) fm w j = if (j 1).val < w.toNat then bit (fm j) else 0#32 := by
  have hc := slt_eq_one_iff (a := (j 1).val) (j 1).isLt hk
  have hb : ∀ a b : BitVec 1, (if IntOp.andi a b = 1#1 then 1#32 else 0#32) = if a = 1#1 then b.setWidth 32 else 0#32 := by decide
  unfold outM k0_pay7
  simp only [shapeCast_self]
  show (if IntOp.andi (IntOp.cmpi .slt (BitVec.ofNat 32 (0 * 4096 + (j 1).val)) w) (IntOp.cmpi .ne (fm j) 0#32) = 1#1 then 1#32 else 0#32) = _
  rw [Nat.zero_mul, Nat.zero_add, hb]
  exact if_congr hc rfl rfl

/-- The third result: one where the mask's word is nonzero and the column is kept, zero elsewhere. -/
theorem resM_apply (mask : Vec F S16x1x4096 .i32) (i : S16x1x4096.Idx) :
    resM (F := F) mask i = if (i 2).val < (width mask).toNat then bit (mask i) else 0#32 := by
  unfold resM
  rw [keep_eq]
  show outM _ _ (Shape.reshapeEquiv shapeCasts_S16x4096_S16x1x4096 i) = _
  rw [outM_apply (kept_width mask), col_reshape, cast_back]

end Cert.Kernel.Trim
end
-- ==== Proof.Reference.lean ====
module
public import proofs.«01_k».proof.Proof.Columns
public import proofs.«01_k».proof.Proof.Gen.ReferenceIdeal.Run
public import Idealize.ShloMosaic.Lib.IdealHost

/-! # The reference's results, element by element

The reference counts with floats; over the extended reals its count is the kernel's word. -/

@[expose] public section
set_option maxRecDepth 16384
noncomputable section
namespace Cert.ReferenceIdeal.Trim

open Cert.ReferenceIdeal Cert.ReferenceIdeal.Gen
open Idealize.ShloMosaic
open Cert.Kernel.Trim (bit rowWord topWord topWord_toInt_le toInt_maxsi Kept width kept_width)

/-! ## The count -/

/-- The mask as ones and zeros. -/
def ones (mask : Vec Ideal S16x1x4096 .i32) : IVec S16x1x4096 32 :=
  extui 32 (id (cmpi .ne mask (broadcastInDim S16x1x4096 ![] bcast_S_S16x1x4096 (constantI S_ 32 0#32)))) natLt_1_32

theorem ones_apply (mask : Vec Ideal S16x1x4096 .i32) (i : S16x1x4096.Idx) : ones mask i = bit (mask i) := rfl

/-- The row counts. -/
def rows (mask : Vec Ideal S16x1x4096 .i32) : IVec S16x1 32 :=
  Host.reduce IntOp.addi (ones mask) (constantI S_ 32 0#32) reducesTo_S16x1x4096_S16x1_d2 h_S_

theorem rows_apply (mask : Vec Ideal S16x1x4096 .i32) (j : S16x1.Idx) : rows mask j = rowWord (fun r k => mask (ix3 r 0 k)) (j 0) := by
  have hr : S16x1x4096.Reduces [2] S16x1 := by decide
  unfold rows
  refine (Host.reduce_eq_fold_single IntOp.addi _ _ _ hr h_S_ j).trans ?_
  refine (Finset.sum_eq_fold (Finset.univ : Finset (Fin 4096)) _).symm.trans ?_
  refine Finset.sum_congr rfl fun k _ => ?_
  show bit (mask _) = bit (mask _)
  refine congrArg (fun i => bit (mask i)) (funext fun c => ?_)
  match c with
  | 0 => rfl
  | 1 => exact Subsingleton.elim (α := Fin 1) _ _
  | 2 => rfl

/-- The largest row count. -/
def most (mask : Vec Ideal S16x1x4096 .i32) : IVec S_ 32 :=
  Host.reduce IntOp.maxsi (rows mask) (constantI S_ 32 2147483648#32) reducesTo_S16x1_S_d0_1 h_S_

theorem most_apply (mask : Vec Ideal S16x1x4096 .i32) (j : S_.Idx) : most mask j = topWord fun r k => mask (ix3 r 0 k) := by
  unfold most topWord
  refine (Host.reduce_eq_fold IntOp.maxsi _ _ _ h_S_ j).trans ?_
  have hu : (Finset.univ.filter fun i : S16x1.Idx => (reducesTo_S16x1_S_d0_1).drop i = j)
      = (Finset.univ : Finset (Fin 16)).image fun r => (ix2 r 0 : S16x1.Idx) := by
    ext i
    simp only [Finset.mem_filter, Finset.mem_univ, true_and, Finset.mem_image]
    refine ⟨fun _ => ⟨i 0, funext fun c => ?_⟩, fun _ => funext fun a => a.elim0⟩
    match c with
    | 0 => rfl
    | 1 => exact Subsingleton.elim (α := Fin 1) _ _
  rw [hu, Finset.fold_image (fun a _ b _ h => congrFun h 0)]
  refine Finset.fold_congr (s := (Finset.univ : Finset (Fin 16))) fun r _ => ?_
  have e : (ix2 r 0 : S16x1.Idx) 0 = r := rfl
  rw [Function.comp_apply, rows_apply mask (ix2 r 0), e]

/-! ## The width -/

/-- The number of columns kept, as a float. -/
def len (mask : Vec Ideal S16x1x4096 .i32) : FVec Ideal S_ .f32 :=
  maximumf (Host.roundeven (sitofp .f32 (most mask))) (constant S_ .f32 0x3F800000#32)

/-- Rounding a whole number gives it back. -/
theorem round_int (n : ℤ) : Ideal.roundHalfEven (n : ℝ) = n := by
  unfold Ideal.roundHalfEven
  simp

/-- The float width is the word's value. -/
theorem len_apply (mask : Vec Ideal S16x1x4096 .i32) (j : S_.Idx) : len mask j = (((width (F := Ideal) mask).toNat : ℝ) : EReal) := by
  have hk := kept_width (F := Ideal) mask
  have e : (width (F := Ideal) mask).toInt = max (topWord fun r k => mask (ix3 r 0 k)).toInt 1 :=
    toInt_maxsi (topWord fun r k => mask (ix3 r 0 k)) 1#32
  rw [BitVec.toInt_eq_toNat_of_lt (by have := hk.le; omega)] at e
  show max (Ideal.liftRound Ideal.roundHalfEven (((most mask j).toInt : ℝ) : EReal)) (Ideal.ofBits .f32 0x3F800000#32) = _
  rw [Ideal.ofBits_one_f32, most_apply]
  show max (((Ideal.roundHalfEven _ : ℤ) : ℝ) : EReal) 1 = _
  rw [round_int]
  have e' : ((width (F := Ideal) mask).toNat : ℝ) = max ((topWord fun r k => mask (ix3 r 0 k)).toInt : ℝ) 1 := by
    exact_mod_cast e
  rw [e']
  exact (EReal.coe_strictMono.monotone.map_max (a := ((topWord fun r k => mask (ix3 r 0 k)).toInt : ℝ)) (b := 1)).symm

/-- Converted to a word it is the kernel's width. -/
theorem word_apply (mask : Vec Ideal S16x1x4096 .i32) (j : S_.Idx) : fptosi 32 (len mask) j = width (F := Ideal) mask := by
  have hk := (kept_width (F := Ideal) mask).le
  show Ideal.fptosi 32 (len mask j) = _
  rw [len_apply]
  show BitVec.ofInt 32 (max _ (min _ (if (0 : ℝ) ≤ ((width (F := Ideal) mask).toNat : ℝ) then ⌊((width (F := Ideal) mask).toNat : ℝ)⌋ else _))) = _
  rw [if_pos (Nat.cast_nonneg _), Int.floor_natCast]
  have : max (-((2 ^ (32 - 1) : ℕ) : ℤ)) (min (((2 ^ (32 - 1) : ℕ) : ℤ) - 1) ((width (F := Ideal) mask).toNat : ℤ)) = ((width (F := Ideal) mask).toNat : ℤ) := by
    have h31 : (((2 ^ (32 - 1) : ℕ) : ℤ)) = 2147483648 := by norm_num
    rw [h31]; omega
  rw [this, BitVec.ofInt_natCast, BitVec.ofNat_toNat, BitVec.setWidth_eq]

/-- Whether anything is trimmed. -/
def short (mask : Vec Ideal S16x1x4096 .i32) : IVec S_ 1 := cmpf .olt (len mask) (constant S_ .f32 0x45800000#32)

theorem ofBits_4096 : Ideal.ofBits .f32 0x45800000#32 = ((4096 : ℝ) : EReal) := by
  simp [Ideal.ofBits, Ideal.ieee, -EReal.coe_mul]; norm_num

theorem short_apply (mask : Vec Ideal S16x1x4096 .i32) (j : S_.Idx) : short mask j = 1#1 ↔ (width (F := Ideal) mask).toNat < 4096 := by
  show BitVec.ofBool (decide (len mask j < Ideal.ofBits .f32 0x45800000#32)) = 1#1 ↔ _
  rw [len_apply, ofBits_4096, WordCmp.ofBool_decide_eq_one_iff, EReal.coe_lt_coe_iff]
  exact_mod_cast Iff.rfl

/-- The columns past the width. -/
def gone (mask : Vec Ideal S16x1x4096 .i32) : IVec S1x1x4096 1 :=
  cmpi .sge (shapeCast _ (iotaInDim S4096 32 0) shapeCasts_S4096_S1x1x4096) (broadcastInDim S1x1x4096 ![] bcast_S_S1x1x4096 (fptosi 32 (len mask)))

theorem gone_apply (mask : Vec Ideal S16x1x4096 .i32) (k : Fin 4096) : gone mask (ix3 0 0 k) = 1#1 ↔ (width (F := Ideal) mask).toNat ≤ k.val := by
  have hk := (kept_width (F := Ideal) mask).le
  have hi : (Shape.reshapeEquiv shapeCasts_S4096_S1x1x4096 (ix3 0 0 k : S1x1x4096.Idx)) = (ix1 k : S4096.Idx) :=
    Shape.reshapeEquiv_eq_of_vals _ _ _ _ _ (rowMajor_val1 _) (rowMajor_val3 _ 4096 4096 rfl rfl) (by simp [ix1, ix3])
  show IntOp.cmpi .sge (BitVec.ofNat 32 ((Shape.reshapeEquiv shapeCasts_S4096_S1x1x4096 (ix3 0 0 k : S1x1x4096.Idx)) 0).val) (fptosi 32 (len mask) _) = 1#1 ↔ _
  rw [hi, word_apply]
  have h := WordCmp.cmpi_sge_ofNat_eq_one_iff (w := 32) (a := k.val) (b := (width (F := Ideal) mask).toNat) (by have := k.isLt; omega) (by omega)
  rw [BitVec.ofNat_toNat, BitVec.setWidth_eq] at h
  exact h

/-! ## The results -/

/-- Trimming the columns past the width, or leaving everything when nothing lies past it, keeps the columns below the width. -/
theorem trimmed {α : Type} (mask : Vec Ideal S16x1x4096 .i32) (j : S_.Idx) (k : Fin 4096) (x z : α) :
    (if short mask j = 1#1 then (if gone mask (ix3 0 0 k) = 1#1 then z else x) else x) = if k.val < (width (F := Ideal) mask).toNat then x else z := by
  have hk := k.isLt
  simp only [short_apply, gone_apply]
  split_ifs <;> first | rfl | omega

/-- A one-row mask read through a broadcast. -/
theorem bcast_col {a b : ℕ} (h : S1x1x4096.BroadcastsInDim ⟨3, ![a, b, 4096]⟩ ![0, 1, 2]) (g : IVec S1x1x4096 1) (i : (⟨3, ![a, b, 4096]⟩ : Shape).Idx) :
    broadcastInDim ⟨3, ![a, b, 4096]⟩ ![0, 1, 2] h g i = g (ix3 0 0 (i 2)) := by
  refine broadcastInDim_apply _ _ _ _ _ fun c => ?_
  match c with
  | 0 => rfl
  | 1 => rfl
  | 2 => rfl

/-- Trimming an array of rows, as the reference writes it. -/
theorem trim_apply {a b : ℕ} {e : EltTy} (h0 : S_.BroadcastsInDim ⟨3, ![a, b, 4096]⟩ ![]) (h : S1x1x4096.BroadcastsInDim ⟨3, ![a, b, 4096]⟩ ![0, 1, 2])
    (mask : Vec Ideal S16x1x4096 .i32) (z : Vec Ideal S_ e) (x : Vec Ideal ⟨3, ![a, b, 4096]⟩ e) (i : (⟨3, ![a, b, 4096]⟩ : Shape).Idx) :
    select (broadcastInDim ⟨3, ![a, b, 4096]⟩ ![] h0 (short mask)) (select (broadcastInDim ⟨3, ![a, b, 4096]⟩ ![0, 1, 2] h (gone mask)) (broadcastInDim ⟨3, ![a, b, 4096]⟩ ![] h0 z) x) x i
      = if (i 2).val < (width (F := Ideal) mask).toNat then x i else z (fun a => a.elim0) := by
  rw [← trimmed mask (fun a => a.elim0) (i 2), ← bcast_col h (gone mask) i]
  have hz : broadcastInDim ⟨3, ![a, b, 4096]⟩ ![] h0 z i = z (fun a => a.elim0) := broadcastInDim_apply _ _ _ _ _ fun c => c.elim0
  have hs : broadcastInDim ⟨3, ![a, b, 4096]⟩ ![] h0 (short mask) i = short mask (fun a => a.elim0) := broadcastInDim_apply _ _ _ _ _ fun c => c.elim0
  rw [← hz, ← hs]
  rfl

/-- The first result, as the reference writes it. -/
def refX (x : Vec Ideal S16x128x4096 .f32) (mask : Vec Ideal S16x1x4096 .i32) : Vec Ideal S16x128x4096 .f32 :=
  select (broadcastInDim S16x128x4096 ![] bcast_S_S16x128x4096 (short mask))
    (select (broadcastInDim S16x128x4096 ![0, 1, 2] bcast_S1x1x4096_S16x128x4096_0_1_2 (gone mask))
      (broadcastInDim S16x128x4096 ![] bcast_S_S16x128x4096 (constant (F := Ideal) S_ .f32 0x00000000#32)) x) x

/-- The second. -/
def refV (v : Vec Ideal S16x4x4096 .f32) (mask : Vec Ideal S16x1x4096 .i32) : Vec Ideal S16x4x4096 .f32 :=
  select (broadcastInDim S16x4x4096 ![] bcast_S_S16x4x4096 (short mask))
    (select (broadcastInDim S16x4x4096 ![0, 1, 2] bcast_S1x1x4096_S16x4x4096_0_1_2 (gone mask))
      (broadcastInDim S16x4x4096 ![] bcast_S_S16x4x4096 (constant (F := Ideal) S_ .f32 0x00000000#32)) v) v

/-- The third. -/
def refM (mask : Vec Ideal S16x1x4096 .i32) : Vec Ideal S16x1x4096 .i32 :=
  select (broadcastInDim S16x1x4096 ![] bcast_S_S16x1x4096 (short mask))
    (select (broadcastInDim S16x1x4096 ![0, 1, 2] bcast_S1x1x4096_S16x1x4096_0_1_2 (gone mask))
      (broadcastInDim S16x1x4096 ![] bcast_S_S16x1x4096 (constantI S_ 32 0#32)) (ones mask)) (ones mask)

/-- The reference's zero is the kernel's. -/
theorem zero_same (j : S_.Idx) : (constant S_ .f32 0x00000000#32 : FVec Ideal S_ .f32) j = Cert.Kernel.Trim.zero32 (F := Ideal) := rfl

theorem refX_eq (x : Vec Ideal S16x128x4096 .f32) (mask : Vec Ideal S16x1x4096 .i32) : refX x mask = Cert.Kernel.Trim.resX (F := Ideal) x mask := by
  funext i
  rw [Cert.Kernel.Trim.resX_apply, ← zero_same fun a => a.elim0]
  exact trim_apply (e := .f32) bcast_S_S16x128x4096 bcast_S1x1x4096_S16x128x4096_0_1_2 mask (constant (F := Ideal) S_ .f32 0x00000000#32) x i

theorem refV_eq (v : Vec Ideal S16x4x4096 .f32) (mask : Vec Ideal S16x1x4096 .i32) : refV v mask = Cert.Kernel.Trim.resV (F := Ideal) v mask := by
  funext i
  rw [Cert.Kernel.Trim.resV_apply, ← zero_same fun a => a.elim0]
  exact trim_apply (e := .f32) bcast_S_S16x4x4096 bcast_S1x1x4096_S16x4x4096_0_1_2 mask (constant (F := Ideal) S_ .f32 0x00000000#32) v i

theorem refM_eq (mask : Vec Ideal S16x1x4096 .i32) : refM mask = Cert.Kernel.Trim.resM (F := Ideal) mask := by
  funext i
  rw [Cert.Kernel.Trim.resM_apply, ← ones_apply]
  exact trim_apply (e := .i32) bcast_S_S16x1x4096 bcast_S1x1x4096_S16x1x4096_0_1_2 mask (constantI S_ 32 0#32) (ones mask) i

end Cert.ReferenceIdeal.Trim
end
-- ==== Proof.Results.lean ====
module
public import proofs.«01_k».proof.Proof.Reference
public import proofs.«01_k».proof.Proof.Gen.KernelIdeal

/-! # The runs side by side

The idealized program is the kernel's own text, so what is proved of one holds of the other; the reference's
three results are the kernel's. -/

@[expose] public section
set_option maxRecDepth 16384
noncomputable section

namespace Cert.KernelIdeal.Trim

open Cert.KernelIdeal Cert.KernelIdeal.Gen
open Idealize.ShloMosaic Idealize.ShloMosaic.TcCoe Idealize.SL.Sem
open Cert.Kernel.Trim (resX resV resM)

attribute [local instance] Cert.Kernel.Gen.facts Cert.KernelIdeal.Gen.facts

variable {F : FTy → Type} [FloatOps F]

/-- The two programs are one. -/
theorem main_same : Cert.KernelIdeal.main (F := F) = Cert.Kernel.main (F := F) := rfl

/-- So are their tables of bodies. -/
theorem defs_same : Cert.KernelIdeal.defs (F := F) = Cert.Kernel.defs (F := F) := rfl

/-- The idealized program's run: the arguments unchanged, the three results, every semaphore at zero. -/
theorem run_values (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v4) = resX (F := F) (m ((c.tc : Thread nD τ).loc main_arg0)) (m ((c.tc : Thread nD τ).loc main_arg2))
      ∧ r.2.mem ((c.tc : Thread nD τ).loc main_v5) = resV (F := F) (m ((c.tc : Thread nD τ).loc main_arg1)) (m ((c.tc : Thread nD τ).loc main_arg2))
      ∧ r.2.mem ((c.tc : Thread nD τ).loc main_v6) = resM (F := F) (m ((c.tc : Thread nD τ).loc main_arg2))) ∧ r.2.sem = fun _ => 0) :=
  Cert.Kernel.Trim.run_values m ρ

end Cert.KernelIdeal.Trim

namespace Cert.ReferenceIdeal.Trim

open Cert.ReferenceIdeal Cert.ReferenceIdeal.Gen
open Idealize.ShloMosaic Idealize.ShloMosaic.TcCoe Idealize.SL.Sem
open Cert.Kernel.Trim (resX resV resM)

/-- The reference's run: its three results are the kernel's, the arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29) = resX (F := Ideal) (m ((c.tc : Thread nD τ).loc main_arg0)) (m ((c.tc : Thread nD τ).loc main_arg2))
      ∧ r.2.mem ((c.tc : Thread nD τ).loc main_v30) = resV (F := Ideal) (m ((c.tc : Thread nD τ).loc main_arg1)) (m ((c.tc : Thread nD τ).loc main_arg2))
      ∧ r.2.mem ((c.tc : Thread nD τ).loc main_v31) = resM (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2.1.trans ?_, (h c).2.2.1.trans ?_, (h c).2.2.2⟩) (Value.run (F := Ideal) m ρ)
  · exact refX_eq (m ((c.tc : Thread nD τ).loc main_arg0)) (m ((c.tc : Thread nD τ).loc main_arg2))
  · exact refV_eq (m ((c.tc : Thread nD τ).loc main_arg1)) (m ((c.tc : Thread nD τ).loc main_arg2))
  · exact refM_eq (m ((c.tc : Thread nD τ).loc main_arg2))

end Cert.ReferenceIdeal.Trim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import Idealize.ShloMosaic.Adequacy
public import Idealize.ShloMosaic.Init

@[expose] public section

noncomputable section

namespace Cert.Proof

open Idealize.ShloMosaic Idealize.SL.Sem Cert.Kernel

/-- The kernel leaves its arguments and every semaphore as they were. -/
theorem frame_kernel : Cert.quiescent_Kernel (hKernel := Cert.Kernel.Gen.facts) := fun m g _ =>
  (θ_run (@Cert.Kernel.defs _ _ Cert.Kernel.Gen.facts) _ _).mono (fun _ h => ⟨fun c => ⟨(h.1 c).1, (h.1 c).2.1, (h.1 c).2.2.1⟩, h.2⟩) (Cert.Kernel.Trim.run_values m g)

/-- So does the idealized program. -/
theorem frame_ideal : Cert.quiescent_KernelIdeal (hKernelIdeal := Cert.KernelIdeal.Gen.facts) := fun m g _ =>
  (θ_run (@Cert.KernelIdeal.defs _ _ Cert.KernelIdeal.Gen.facts) _ _).mono (fun _ h => ⟨fun c => ⟨(h.1 c).1, (h.1 c).2.1, (h.1 c).2.2.1⟩, h.2⟩) (Cert.KernelIdeal.Trim.run_values m g)

/-- So does the reference, which has no semaphore. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2.2.2, sem_eq_zero_of_no_sems (by decide) r.2⟩) (Cert.ReferenceIdeal.Trim.run_values m g)

/-- The idealized program and the reference, run from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Kernel.Trim.resX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Kernel.Trim.resV (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Kernel.Trim.resM (F := Ideal) (m ((c.tc : Thread Cert.KernelIdeal.nD Cert.KernelIdeal.τ).loc Cert.KernelIdeal.main_arg2)), ?_, ?_⟩
  · refine (θ_run (@Cert.KernelIdeal.defs _ _ Cert.KernelIdeal.Gen.facts) _ _).mono (fun _ h c => ?_) (Cert.KernelIdeal.Trim.run_values m g)
    obtain ⟨a0, a1, a2, e0, e1, e2⟩ := h.1 c
    exact ⟨e0, e1, e2, a0, a1, a2⟩
  · refine (θ_run (Cert.ReferenceIdeal.defs (F := Ideal)) _ _).mono (fun _ h c => ?_) (Cert.ReferenceIdeal.Trim.run_values m' g')
    obtain ⟨e0, e1, e2, a⟩ := h c
    obtain ⟨h0, h1, h2⟩ := hargs c
    exact ⟨e0.trans (congrArg₂ (Cert.Kernel.Trim.resX (F := Ideal)) h0 h2), e1.trans (congrArg₂ (Cert.Kernel.Trim.resV (F := Ideal)) h1 h2),
      e2.trans (congrArg (Cert.Kernel.Trim.resM (F := Ideal)) h2), a⟩

theorem claim : Cert.Claim := ⟨Cert.Kernel.Gen.facts, Cert.KernelIdeal.Gen.facts, Cert.ReferenceIdeal.Gen.facts,
  frame_kernel, frame_ideal, frame_reference, trivial, algebraic⟩

end Cert.Proof

end
